-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_distinct_times_finite_factors [hPre_distinct_times_finite_factors : Cert.Pre_distinct_times_finite_factors.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_times_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_distinct_times_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_distinct_times_finite_factors.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_times_finite_factors [hPre_distinct_times_finite_factors : Cert.Pre_distinct_times_finite_factors.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_times_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_distinct_times_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_distinct_times_finite_factors.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_distinct_times_finite_factors [hKernelIdeal : Cert.KernelIdeal.Facts] [hPre_distinct_times_finite_factors : Cert.Pre_distinct_times_finite_factors.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_times_finite_factors m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_distinct_times_finite_factors [hReferenceIdeal : Cert.ReferenceIdeal.Facts] [hPre_distinct_times_finite_factors : Cert.Pre_distinct_times_finite_factors.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_times_finite_factors m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.HalfStatement Cert.KernelIdeal.S128x128

def algebraic_KernelIdeal_ReferenceIdeal_pre_distinct_times_finite_factors [hKernelIdeal : Cert.KernelIdeal.Facts] [hReferenceIdeal : Cert.ReferenceIdeal.Facts] [hPre_distinct_times_finite_factors : Cert.Pre_distinct_times_finite_factors.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_times_finite_factors m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_distinct_times_finite_factors : Cert.Pre_distinct_times_finite_factors.Facts),
    quiescent_Kernel (hKernel := hKernel)
    ∧ quiescent_KernelIdeal (hKernelIdeal := hKernelIdeal)
    ∧ quiescent_KernelIdeal_pre_distinct_times_finite_factors (hKernelIdeal := hKernelIdeal) (hPre_distinct_times_finite_factors := hPre_distinct_times_finite_factors)
    ∧ quiescent_ReferenceIdeal (hReferenceIdeal := hReferenceIdeal)
    ∧ quiescent_ReferenceIdeal_pre_distinct_times_finite_factors (hReferenceIdeal := hReferenceIdeal) (hPre_distinct_times_finite_factors := hPre_distinct_times_finite_factors)
    ∧ preserves_Kernel_KernelIdeal
    ∧ algebraic_KernelIdeal_ReferenceIdeal_pre_distinct_times_finite_factors (hKernelIdeal := hKernelIdeal) (hReferenceIdeal := hReferenceIdeal) (hPre_distinct_times_finite_factors := hPre_distinct_times_finite_factors)
-- ==== Pre_distinct_times_finite_factors.lean ====
abbrev S16384x512 : Shape := ⟨2, ![16384, 512]⟩
abbrev S16384x2 : Shape := ⟨2, ![16384, 2]⟩
abbrev S512x1 : Shape := ⟨2, ![512, 1]⟩
abbrev S16384x1 : Shape := ⟨2, ![16384, 1]⟩
abbrev S16384 : Shape := ⟨1, ![16384]⟩
abbrev S1x16384 : Shape := ⟨2, ![1, 16384]⟩
abbrev S16384x16384 : Shape := ⟨2, ![16384, 16384]⟩
abbrev S_ : Shape := ⟨0, ![]⟩

class Facts : Prop where
  slices_S16384x2_S16384x1_0_0 : S16384x2.Slices ![0, 0] S16384x1
  shapeCasts_S16384x1_S16384 : S16384x1.ShapeCasts S16384
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x512 : S_.BroadcastsInDim S16384x512 (![] : Fin 0 → Fin S16384x512.rank)
  bcast_S_S512x1 : S_.BroadcastsInDim S512x1 (![] : Fin 0 → Fin S512x1.rank)

variable [Facts]

def fn {F : FTy → Type} [FloatOps F] (main_arg0 : FVec F S16384x512 .f32) (main_arg1 : FVec F S16384x2 .f32) (main_arg2 : FVec F S512x1 .f32) : IVec S16384x16384 1 × IVec S16384x512 1 × IVec S512x1 1 :=
  let main_v0 : FVec F S16384x1 .f32 := (extractStridedSlice S16384x1 ![0, 0] · slices_S16384x2_S16384x1_0_0) main_arg1
  let main_v1 : FVec F S16384 .f32 := shapeCast S16384 main_v0 shapeCasts_S16384x1_S16384
  let main_v2 : IVec S16384 32 := iotaInDim S16384 32 0
  let main_v3 : FVec F S16384x1 .f32 := broadcastInDim S16384x1 ![0] bcast_S16384_S16384x1_0 main_v1
  let main_v4 : FVec F S1x16384 .f32 := broadcastInDim S1x16384 ![1] bcast_S16384_S1x16384_1 main_v1
  let main_v5 : FVec F S16384x16384 .f32 := broadcastInDim S16384x16384 ![0, 1] bcast_S16384x1_S16384x16384_0_1 main_v3
  let main_v6 : FVec F S16384x16384 .f32 := broadcastInDim S16384x16384 ![0, 1] bcast_S1x16384_S16384x16384_0_1 main_v4
  let main_v7 : IVec S16384x16384 1 := cmpf .une main_v5 main_v6
  let main_v8 : IVec S16384x1 32 := broadcastInDim S16384x1 ![0] bcast_S16384_S16384x1_0 main_v2
  let main_v9 : IVec S1x16384 32 := broadcastInDim S1x16384 ![1] bcast_S16384_S1x16384_1 main_v2
  let main_v10 : IVec S16384x16384 32 := broadcastInDim S16384x16384 ![0, 1] bcast_S16384x1_S16384x16384_0_1 main_v8
  let main_v11 : IVec S16384x16384 32 := broadcastInDim S16384x16384 ![0, 1] bcast_S1x16384_S16384x16384_0_1 main_v9
  let main_v12 : IVec S16384x16384 1 := cmpi .eq main_v10 main_v11
  let main_v13 : IVec S16384x16384 1 := ori main_v7 main_v12
  let main_v14 : FVec F S16384x512 .f32 := Host.absf main_arg0
  let main_cst : FVec F S_ .f32 := constant S_ .f32 0x7F800000#32
  let main_v15 : FVec F S16384x512 .f32 := broadcastInDim S16384x512 ![] bcast_S_S16384x512 main_cst
  let main_v16 : IVec S16384x512 1 := cmpf .olt main_v14 main_v15
  let main_v17 : FVec F S512x1 .f32 := Host.absf main_arg2
  let main_cst_0 : FVec F S_ .f32 := constant S_ .f32 0x7F800000#32
  let main_v18 : FVec F S512x1 .f32 := broadcastInDim S512x1 ![] bcast_S_S512x1 main_cst_0
  let main_v19 : IVec S512x1 1 := cmpf .olt main_v17 main_v18
  (main_v13, main_v16, main_v19)
-- ==== Kernel.lean ====
abbrev S16384x512 : Shape := ⟨2, ![16384, 512]⟩
abbrev S16384x2 : Shape := ⟨2, ![16384, 2]⟩
abbrev S512x1 : Shape := ⟨2, ![512, 1]⟩
abbrev S16384x1 : Shape := ⟨2, ![16384, 1]⟩
abbrev S16384 : Shape := ⟨1, ![16384]⟩
abbrev S128x128 : Shape := ⟨2, ![128, 128]⟩
abbrev S1x512 : Shape := ⟨2, ![1, 512]⟩
abbrev S1x1 : Shape := ⟨2, ![1, 1]⟩
abbrev S4096x512 : Shape := ⟨2, ![4096, 512]⟩
abbrev S1x4096 : Shape := ⟨2, ![1, 4096]⟩
abbrev S1x128 : Shape := ⟨2, ![1, 128]⟩
abbrev S1x128x128 : Shape := ⟨3, ![1, 128, 128]⟩
abbrev S1 : Shape := ⟨1, ![1]⟩
abbrev S1x1x1 : Shape := ⟨3, ![1, 1, 1]⟩
abbrev S128x1 : Shape := ⟨2, ![128, 1]⟩
abbrev S_ : Shape := ⟨0, ![]⟩

abbrev nBuf : Space → Nat
  | .hbm => 12
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S512x1, .f32⟩
  | .hbm, ⟨3, _⟩ => ⟨S16384x1, .f32⟩
  | .hbm, ⟨4, _⟩ => ⟨S16384, .f32⟩
  | .hbm, ⟨5, _⟩ => ⟨S128x128, .f32⟩
  | .hbm, ⟨6, _⟩ => ⟨S16384x1, .f32⟩
  | .hbm, ⟨7, _⟩ => ⟨S16384, .f32⟩
  | .hbm, ⟨8, _⟩ => ⟨S128x128, .f32⟩
  | .hbm, ⟨9, _⟩ => ⟨S1x512, .f32⟩
  | .hbm, ⟨10, _⟩ => ⟨S1x1, .f32⟩
  | .hbm, ⟨11, _⟩ => ⟨S_, .f32⟩
  | .local _ .vmem, ⟨0, _⟩ => ⟨S4096x512, .f32⟩
  | .local _ .vmem, ⟨1, _⟩ => ⟨S4096x512, .f32⟩
  | .local _ .vmem, ⟨2, _⟩ => ⟨S1x512, .f32⟩
  | .local _ .vmem, ⟨3, _⟩ => ⟨S128x128, .f32⟩
  | .local _ .vmem, ⟨4, _⟩ => ⟨S128x128, .f32⟩
  | .local _ .vmem, ⟨5, _⟩ => ⟨S1x1, .f32⟩
  | .local _ .vmem, ⟨6, _⟩ => ⟨S128x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [BitOps F]

abbrev grid0 : Pipeline.Grid := ⟨1, ![5], ![false]⟩

def k0_cond1 (i : grid0.Coords) : BitVec 1 :=
  let arg0 : BitVec 32 := BitVec.ofNat 32 (i 0).val
  let c4_i32 : BitVec 32 := 4#32
  let v0 : BitVec 1 := Scalar.cmpi .slt arg0 c4_i32
  let v1 : BitVec 32 := Scalar.extui v0
  let c0_i32 : BitVec 32 := 0#32
  let v2 : BitVec 1 := Scalar.cmpi .ne v1 c0_i32
  v2

def k0_off1 (i : grid0.Coords) (c0_i32_5 : BitVec 32) : Fin 2 → Nat :=
  let arg0 : BitVec 32 := BitVec.ofNat 32 (i 0).val
  let c32_i32 : BitVec 32 := 32#32
  let v11 : BitVec 32 := Scalar.muli arg0 c32_i32
  let v12 : BitVec 32 := Scalar.addi v11 c0_i32_5
  let v13 : Index := Scalar.indexCast v12
  let c0_6 : Index := 0#32
  ![v13.toNat, 0]
def k0_cond2 (i : grid0.Coords) : BitVec 1 :=
  let arg0 : BitVec 32 := BitVec.ofNat 32 (i 0).val
  let c4_i32_0 : BitVec 32 := 4#32
  let v3 : BitVec 1 := Scalar.cmpi .eq arg0 c4_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F]
-- ==== ReferenceIdeal.lean ====
abbrev S16384x512 : Shape := ⟨2, ![16384, 512]⟩
abbrev S16384x2 : Shape := ⟨2, ![16384, 2]⟩
abbrev S512x1 : Shape := ⟨2, ![512, 1]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x2, .f32⟩
  | .hbm, ⟨2, _⟩ => ⟨S512x1, .f32⟩
  | .hbm, ⟨3, _⟩ => ⟨S16384x1, .f32⟩
  | .hbm, ⟨4, _⟩ => ⟨S16384x1, .f32⟩
  | .hbm, ⟨5, _⟩ => ⟨S16384, .f32⟩
  | .hbm, ⟨6, _⟩ => ⟨S16384, .f32⟩
  | .hbm, ⟨7, _⟩ => ⟨S16384, .i32⟩
  | .hbm, ⟨8, _⟩ => ⟨S16384, .f32⟩
  | .hbm, ⟨9, _⟩ => ⟨S16384, .i32⟩
  | .hbm, ⟨10, _⟩ => ⟨S16384x1, .f32⟩
  | .hbm, ⟨11, _⟩ => ⟨S16384, .f32⟩
  | .hbm, ⟨12, _⟩ => ⟨S_, .i32⟩
  | .hbm, ⟨13, _⟩ => ⟨S16384, .i32⟩
  | .hbm, ⟨14, _⟩ => ⟨S16384, .i1⟩
  | .hbm, ⟨15, _⟩ => ⟨S_, .i32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384x1, .i32⟩
  | .hbm, ⟨20, _⟩ => ⟨S1, .i32⟩
  | .hbm, ⟨21, _⟩ => ⟨S_, .i32⟩
  | .hbm, ⟨22, _⟩ => ⟨S16384x1, .i32⟩
  | .hbm, ⟨23, _⟩ => ⟨S16384x1, .i1⟩
  | .hbm, ⟨24, _⟩ => ⟨S1x1, .i32⟩
  | .hbm, ⟨25, _⟩ => ⟨S16384x1, .i32⟩
  | .hbm, ⟨26, _⟩ => ⟨S16384x1, .i1⟩
  | .hbm, ⟨27, _⟩ => ⟨S16384x1, .i1⟩
  | .hbm, ⟨28, _⟩ => ⟨S_, .i1⟩
  | .hbm, ⟨29, _⟩ => ⟨S16384, .i1⟩
  | .hbm, ⟨30, _⟩ => ⟨S16384, .f32⟩
  | .hbm, ⟨31, _⟩ => ⟨S_, .f32⟩
  | .hbm, ⟨32, _⟩ => ⟨S16384, .f32⟩
  | .hbm, ⟨33, _⟩ => ⟨S16384, .f32⟩
  | .hbm, ⟨34, _⟩ => ⟨S16384, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S_, .i32⟩
  | .hbm, ⟨39, _⟩ => ⟨S16384, .i32⟩
  | .hbm, ⟨40, _⟩ => ⟨S16384, .i32⟩
  | .hbm, ⟨41, _⟩ => ⟨S16384, .i32⟩
  | .hbm, ⟨42, _⟩ => ⟨S16384x1, .i32⟩
  | .hbm, ⟨43, _⟩ => ⟨S1, .i32⟩
  | .hbm, ⟨44, _⟩ => ⟨S_, .i32⟩
  | .hbm, ⟨45, _⟩ => ⟨S16384x1, .i32⟩
  | .hbm, ⟨46, _⟩ => ⟨S16384x1, .i1⟩
  | .hbm, ⟨47, _⟩ => ⟨S1x1, .i32⟩
  | .hbm, ⟨48, _⟩ => ⟨S16384x1, .i32⟩
  | .hbm, ⟨49, _⟩ => ⟨S16384x1, .i1⟩
  | .hbm, ⟨50, _⟩ => ⟨S16384x1, .i1⟩
  | .hbm, ⟨51, _⟩ => ⟨S_, .i1⟩
  | .hbm, ⟨52, _⟩ => ⟨S16384, .i1⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384, .f32⟩
  | .hbm, ⟨62, _⟩ => ⟨S_, .f32⟩
  | .hbm, ⟨63, _⟩ => ⟨S_, .f32⟩
  | .hbm, ⟨64, _⟩ => ⟨S16384, .f32⟩
  | .hbm, ⟨65, _⟩ => ⟨S_, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S16384, .f32⟩
  | .hbm, ⟨72, _⟩ => ⟨S16384, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v7 : Ref sig .tc := ⟨.hbm, 33, rfl⟩
abbrev main_v8 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v9 : Ref sig .tc := ⟨.hbm, 56, rfl⟩
abbrev main_cst : Ref sig .tc := ⟨.hbm, 57, rfl⟩
abbrev main_v10 : Ref sig .tc := ⟨.hbm, 58, rfl⟩
abbrev main_v11 : Ref sig .tc := ⟨.hbm, 59, rfl⟩
abbrev main_v12 : Ref sig .tc := ⟨.hbm, 60, rfl⟩
abbrev main_v13 : Ref sig .tc := ⟨.hbm, 61, rfl⟩
abbrev main_call3_call0_cst : Ref sig .tc := ⟨.hbm, 62, rfl⟩
abbrev main_call3_call0_v0 : Ref sig .tc := ⟨.hbm, 63, rfl⟩
abbrev main_v14 : Ref sig .tc := ⟨.hbm, 64, rfl⟩
abbrev main_cst_0 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_cst_1 : Ref sig .tc := ⟨.hbm, 73, rfl⟩
abbrev main_v22 : Ref sig .tc := ⟨.hbm, 74, rfl⟩
abbrev main_cst_2 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩

abbrev nD : Nat := 1
abbrev τ : Topo := Topo.v7x

variable {F : FTy → Type} [FloatOps F]
-- ==== Proof.BitsFrame.lean ====
/-
  The frame of the printed kernel: at any arrays its run ends with the arguments as they started and every counter at zero.
  Nothing is said of what it computes.
-/
module

public import proofs.«01_k».proof.Proof.Gen.Kernel.Frame
public import proofs.«01_k».proof.Proof.Gen.Kernel.Skeleton
public import Idealize.ShloMosaic.Lib.WholeRead
public import Idealize.ShloMosaic.Lib.Claim

@[expose] public section

set_option maxRecDepth 16384

noncomputable section

namespace Cert.Kernel.Kept

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What the body keeps -/

/-- The four inputs at their contents, the result and the scratch at anything. -/
def kept (c : Dev nD) (arg1 : Memref sig .tc .vmem S4096x512 .f32) (arg2 : Memref sig .tc .vmem S1x512 .f32)
    (arg3 arg4 : Memref sig .tc .vmem S128x128 .f32) (arg5 : Memref sig .tc .vmem S1x1 .f32) (arg6 : Memref sig .tc .vmem S128x128 .f32)
    (x : Vec F S4096x512 .f32) (w : Vec F S1x512 .f32) (t e : Vec F S128x128 .f32) : sProp 𝕄 :=
  iprop(owns (c : Thread nD τ) arg1 fullShare x ∗ owns (c : Thread nD τ) arg2 fullShare w ∗ owns (c : Thread nD τ) arg3 fullShare t
    ∗ owns (c : Thread nD τ) arg4 fullShare e ∗ (∃ d, owns (c : Thread nD τ) arg5 fullShare d) ∗ (∃ d, owns (c : Thread nD τ) arg6 fullShare d))

set_option maxHeartbeats 4000000 in
/-- The body keeps its inputs, whichever of its two branches is taken. -/
theorem body_keeps (c : Dev nD) (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole)
    (hone : k0_cond1 i = 1#1 → ¬ k0_cond2 i = 1#1)
    (x : Vec F S4096x512 .f32) (w : Vec F S1x512 .f32) (t e : Vec F S128x128 .f32) (E : Set ℕ) (K : PUnit → sProp 𝕄) :
    iprop(kept c arg1 arg2 arg3 arg4 arg5 arg6 x w t e ∗ (kept c arg1 arg2 arg3 arg4 arg5 arg6 x w t e -∗ K ⟨⟩))
      ⊢ wp frame (wpE (defs₀ (F := F)) Variants.none c none) E (cc0__fused_body i arg1 harg1 arg2 harg2 arg3 harg3 arg4 harg4 arg5 harg5 arg6 harg6) K := by
  rw [cc0__fused_body_eq_skeleton]
  unfold cc0__fused_body_skel kept owns
  iintro ⟨⟨⟨%f1, %hf1, H1⟩, ⟨%f2, %hf2, H2⟩, ⟨%f3, %hf3, H3⟩, ⟨%f4, %hf4, H4⟩, ⟨%d5, %f5, -, H5⟩, ⟨%d6, %f6, -, H6⟩⟩, Hk⟩
  obtain rfl := harg1.eq_unread hf1; obtain rfl := harg2.eq_unread hf2
  obtain rfl := harg3.eq_unread hf3; obtain rfl := harg4.eq_unread hf4
  by_cases h1 : k0_cond1 i = 1#1
  on_goal 1 => rw [dif_pos h1, dif_neg (hone h1)]
  on_goal 2 => rw [dif_neg h1]
  on_goal 2 => by_cases h2 : k0_cond2 i = 1#1
  on_goal 2 => rw [dif_pos h2]
  on_goal 3 => rw [dif_neg h2]
  all_goals
    try simp only [
    k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton, k0_part17_eq_skeleton, k0_part18_eq_skeleton, k0_part19_eq_skeleton, k0_part20_eq_skeleton,
    k0_part21_eq_skeleton, k0_part22_eq_skeleton, k0_part23_eq_skeleton, k0_part24_eq_skeleton, k0_part25_eq_skeleton,
    k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton,
    k0_part36_eq_skeleton, k0_part37_eq_skeleton, k0_part38_eq_skeleton, k0_part39_eq_skeleton, k0_part40_eq_skeleton,
    k0_part41_eq_skeleton, k0_part42_eq_skeleton, k0_part43_eq_skeleton, k0_part44_eq_skeleton, k0_part45_eq_skeleton,
    k0_part46_eq_skeleton, k0_part47_eq_skeleton, k0_part48_eq_skeleton, k0_part49_eq_skeleton, k0_part50_eq_skeleton,
    k0_part51_eq_skeleton, k0_part52_eq_skeleton, k0_part53_eq_skeleton, k0_part54_eq_skeleton, k0_part55_eq_skeleton,
    k0_part56_eq_skeleton, k0_part57_eq_skeleton, k0_part58_eq_skeleton, k0_part59_eq_skeleton, k0_part60_eq_skeleton,
    k0_part61_eq_skeleton, k0_part62_eq_skeleton, k0_part63_eq_skeleton, k0_part64_eq_skeleton]
    try sl_exec
    sl_step
    iapply Hk
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _, _; isplitr; swap; · iexact H5
      ipureintro; rfl
    iexists _, _; isplitr; swap; · iexact H6
    ipureintro; rfl

/-! ## The points -/

/-- No grid point takes both branches. -/
theorem one_branch : ∀ t : Fin cfg0.N, k0_cond1 (grid0.coords t) = 1#1 → ¬ k0_cond2 (grid0.coords t) = 1#1 :=
  (by decide +kernel : ∀ t : Fin grid0.N, k0_cond1 (grid0.coords t) = 1#1 → ¬ k0_cond2 (grid0.coords t) = 1#1)

/-- The window whose contents are left unsaid is the result's. -/
def unsaid : Fin 5 → Bool := fun w => w.val == 4

/-- The one buffer written after the kernel is the returned scalar. -/
def returned : Finset (Ref sig .tc) := {main_v8}

theorem sfx_returned : ∀ ops ∈ ([hostOps1] : List (List (HloOp τ sig (Elt F)))), ∀ op ∈ ops,
    ∀ b : Ref sig .tc, Proc.devRef .tc b ∈ op.writes → b ∈ returned := by
  intro ops hops op hop b hb
  obtain rfl := List.mem_singleton.mp hops
  simp only [hostOps1, List.mem_singleton] at hop
  obtain rfl := hop
  simp only [StableHlo.reshape_writes, Finset.mem_singleton] at hb
  cases Proc.devRef_injective _ hb
  decide

/-- The pipeline's proof data: the inputs' blocks stay, the result's contents are unsaid. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

/-- The launch set-up's invariant is the scratch at anything and the generator's register. -/
theorem ΦA_eq (c : Dev nD) :
    (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

set_option maxHeartbeats 1600000 in
/-- At every point the body finds the inputs' blocks in place and leaves them so. -/
theorem body_obligation (c : Dev nD) : BodyObligation (dats (F := F) m 0 c) (defs₀ (F := F)) Variants.none () Set.univ unsaid := fun t => by
  have row : defs₀ (F := F) .tc cfg0.body (cfg0.bodyArgs t (cfg0.slots t)) = bodyAt0 t := by unfold defs₀; rw [Defs.onTc_tc]
  have b0 := before0_0_of m (dats m 0 c) (A_eq m c 0) (fun _ => by dsimp only [dats]) t
  have b1 := before0_1_of m (dats m 0 c) (A_eq m c 1) (fun _ => by dsimp only [dats]) t
  have b2 := before0_2_of m (dats m 0 c) (A_eq m c 2) (fun _ => by dsimp only [dats]) t
  have b3 := before0_3_of m (dats m 0 c) (A_eq m c 3) (fun _ => by dsimp only [dats]) t
  have run := body_keeps (F := F) c (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3)) (win0_4.stage (cfg0.slots t 4)) (hstage0_4 ((cfg0.slots t 4).cast nbuf0_4))
    (Memref.whole cc0_scratch0) (Memref.isWhole_whole _) (one_branch t) (iblk m c 0 t) (iblk m c 1 t) (iblk m c 2 t) (iblk m c 3 t) Set.univ
  have body : iprop(Pipeline.ΦA spec0 c ∗ (dats m 0 c).owesAt () t.castSucc
      ∗ (∃ d, owns (c : Thread nD τ) (win0_0.stage (cfg0.slots t 0)) fullShare ((dats m 0 c).before 0 t d))
      ∗ (∃ d, owns (c : Thread nD τ) (win0_1.stage (cfg0.slots t 1)) fullShare ((dats m 0 c).before 1 t d))
      ∗ (∃ d, owns (c : Thread nD τ) (win0_2.stage (cfg0.slots t 2)) fullShare ((dats m 0 c).before 2 t d))
      ∗ (∃ d, owns (c : Thread nD τ) (win0_3.stage (cfg0.slots t 3)) fullShare ((dats m 0 c).before 3 t d))
      ∗ (∃ d, owns (c : Thread nD τ) (win0_4.stage (cfg0.slots t 4)) fullShare d))
    ⊢ wp frame (wpE (defs₀ (F := F)) Variants.none c none) Set.univ (bodyAt0 t) (fun _ =>
      iprop(Pipeline.ΦA spec0 c ∗ (dats m 0 c).owesAt () t.castSucc
        ∗ owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ (∃ d, owns (c : Thread nD τ) (win0_4.stage (cfg0.slots t 4)) fullShare d))) := by
    unfold bodyAt0
    simp only [b0, b1, b2, b3]
    rw [ΦA_eq]
    iintro ⟨⟨HS, Hg⟩, Ho, ⟨%d0, H0⟩, ⟨%d1, H1⟩, ⟨%d2, H2⟩, ⟨%d3, H3⟩, H4⟩
    iapply (run _)
    unfold kept
    isplitl [H0 H1 H2 H3 H4 HS]
    · isplitl [H0]; · iexact H0
      isplitl [H1]; · iexact H1
      isplitl [H2]; · iexact H2
      isplitl [H3]; · iexact H3
      isplitl [H4]; · iexact H4
      iexact HS
    iintro ⟨H0, H1, H2, H3, H4, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexact H4
  rw [bigSep_W0, bigSep_W0, row]
  exact triple_restated body rfl .rfl fun _ => .rfl

/-! ## The run -/

set_option backward.isDefEq.respectTransparency.types false in
set_option maxHeartbeats 1600000 in
/-- The launch: the inputs' arrays and every buffer not written end as they were, every counter at zero. -/
theorem run_all : θ_run defs (onTc (τ := τ) (main (F := F))) (s₀ m ρ)
    (fun r => Pipeline.RDat.FramePostR (cfgs 0) (fun c => (dats m 0 c).toRForget unsaid) returned (V m) r ∧ r.2.sem = fun _ => 0) :=
  Pipeline.θ_run_frame_around_T_forget (Q' := _) cfgs (dats m) (0 : Fin 1) launch0 defs₀ Variants.none unsaid returned m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_returned)
    (hmain := hmain m Variants.none) (hA := A_eq m) (hΦ := fun _ _ => rfl)

/-- The frame: the arguments end as they started and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  have rest : ∀ b : Ref sig .tc, b ∈ Pipeline.restRefs sig spec0 → b ∉ returned → b ∈ Pipeline.restRefs sig spec0 \ returned :=
    fun b h h' => Finset.mem_sdiff.mpr ⟨h, h'⟩
  refine (θ_run defs _ _).mono (fun _ h => ⟨fun c => ⟨?_, ?_, ?_⟩, h.2⟩) (run_all m ρ)
  · exact (Pipeline.RDat.FramePostR.arr_in h.1 c 0 rfl).trans ((A_eq m c 0).trans (V_main_arg0 m c))
  · exact ((h.1 c).2 main_arg1 (rest _ (Pipeline.mem_restRefs_of main_arg1 (by decide) (by decide)) (by decide))).trans (V_main_arg1 m c)
  · exact ((h.1 c).2 main_arg2 (rest _ (Pipeline.mem_restRefs_of main_arg2 (by decide) (by decide)) (by decide))).trans (V_main_arg2 m c)

end Cert.Kernel.Kept

end
-- ==== Proof.Rows.lean ====
/-
  The printed first branch of the body stores, one row of 128 at a time, the 4096 products of a block of rows with the
  weights. Here it is stated as a loop over the 32 rows.
-/
module

public import proofs.«01_k».proof.Proof.Gen.KernelIdeal.Skeleton

@[expose] public section

noncomputable section

namespace Cert.KernelIdeal.Rows

open Idealize.ShloMosaic Idealize.SL.Sem
open Cert.KernelIdeal Cert.KernelIdeal.Gen

variable {F : FTy → Type} [FloatOps F]

/-- Each of the 32 pieces of 128 products lies in the 4096. -/
theorem piece_slices : ∀ p : Fin 32, S1x4096.Slices ![0, 128 * p.val] S1x128 := by decide +kernel

/-- The `p`-th 128 of the 4096 products. -/
def piece (v : FVec F S1x4096 .f32) (p : Fin 32) : FVec F S1x128 .f32 :=
  shapeCast S1x128 (extractStridedSlice S1x128 ![0, 128 * p.val] v (piece_slices p)) shapeCasts_S1x128_S1x128

/-- Store the pieces `ps` of the products `v`, each in its row of the scratch. -/
def storeRows (i : grid0.Coords) (h : k0_cond1 i = 1#1) (arg6 : Memref sig .tc .vmem S128x128 .f32) (v : FVec F S1x4096 .f32) :
    List (Fin 32) → Prog (TpuEff nD τ sig (Elt F) Λ₀ .tc) PUnit
  | [] => pure ⟨⟩
  | p :: ps => do
    let _ : Vec F S1x128 .f32 ← Prog.lift (.load arg6 (Rect.unit (s := S128x128) (k0_off1 i (BitVec.ofNat 32 p.val)) S1x128.size (k0_off1_inb i h p)).toLoadRect (View.loadsAt_vmem h_S1x128))
    Prog.lift (.store arg6 (Rect.unit (s := S128x128) (k0_off1 i (BitVec.ofNat 32 p.val)) S1x128.size (k0_off1_inb i h p)) (piece v p) Finset.univ (View.stores_vmem_bits_univ h_S1x128 rfl) (.inl rfl))
    storeRows i h arg6 v ps

/-- The 32 pieces in order. -/
def pieces : List (Fin 32) := [0, 1, 2, 3, 4, 5, 6, 7, 8, 9, 10, 11, 12, 13, 14, 15, 16, 17, 18, 19, 20, 21, 22, 23, 24, 25, 26, 27, 28, 29, 30, 31]

/-- An earlier grid point: load the weights and a block of rows, store the products. -/
def earlierPoint (i : grid0.Coords) (h : k0_cond1 i = 1#1) (arg1 : Memref sig .tc .vmem S4096x512 .f32)
    (arg2 : Memref sig .tc .vmem S1x512 .f32) (arg6 : Memref sig .tc .vmem S128x128 .f32) :
    Prog (TpuEff nD τ sig (Elt F) Λ₀ .tc) PUnit := do
  let w : Vec F S1x512 .f32 ← Prog.lift (.load arg2 (Rect.unit (s := S1x512) ![0, 0] S1x512.size inb_S1x512_S1x512_0_0).toLoadRect (View.loadsAt_vmem h_S1x512))
  let x : Vec F S4096x512 .f32 ← Prog.lift (.load arg1 (Rect.unit (s := S4096x512) ![0, 0] S4096x512.size inb_S4096x512_S4096x512_0_0).toLoadRect (View.loadsAt_vmem h_S4096x512))
  storeRows i h arg6 (k0_pay2 w x) pieces

set_option maxRecDepth 1000000 in
set_option maxHeartbeats 4000000 in
/-- The printed first branch is `earlierPoint`. -/
theorem earlierPoint_eq (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole) (k0_h1 : k0_cond1 i = 1#1) :
  (do
    let arg0 : BitVec 32 := BitVec.ofNat 32 (i 0).val
    let ⟨v9, v38⟩ ← k0_part1 i arg1 harg1 arg2 harg2 arg3 harg3 arg4 harg4 arg5 harg5 arg6 harg6 arg0 k0_h1
    let v80 ← k0_part2 i arg1 harg1 arg2 harg2 arg3 harg3 arg4 harg4 arg5 harg5 arg6 harg6 arg0 k0_h1 v9 v38
    let v115 ← k0_part3 i arg1 harg1 arg2 harg2 arg3 harg3 arg4 harg4 arg5 harg5 arg6 harg6 arg0 k0_h1 v9 v80
    k0_part4 i arg1 harg1 arg2 harg2 arg3 harg3 arg4 harg4 arg5 harg5 arg6 harg6 arg0 k0_h1 v9 v115
    let ⟨v192, v194⟩ ← k0_part5 i arg1 harg1 arg2 harg2 arg3 harg3 arg4 harg4 arg5 harg5 arg6 harg6 arg0 k0_h1 v9
    let v233 ← k0_part6 i arg1 harg1 arg2 harg2 arg3 harg3 arg4 harg4 arg5 harg5 arg6 harg6 arg0 k0_h1 v9 v192 v194
    Prog.lift (.store arg6 (Rect.unit (s := S128x128) (k0_off1 i 31#32) S1x128.size (k0_off1_inb i k0_h1 31)) v233 Finset.univ (View.stores_vmem_bits_univ h_S1x128 rfl) (.inl rfl))
    pure ⟨⟩
   : Prog (TpuEff nD τ sig (Elt F) Λ₀ .tc) PUnit)
   = earlierPoint i k0_h1 arg1 arg2 arg6 := rfl

end Cert.KernelIdeal.Rows

end
-- ==== Proof.Stage.lean ====
/-
  The sorting network of the last grid point, stated once: what one exchange does to the three arrays it moves, the list of
  exchanges in the order they run, and that the body at that point is: load the three arrays, run the exchanges, combine.
-/
module

public import proofs.«01_k».proof.Proof.Gen.KernelIdeal.Skeleton

@[expose] public section

noncomputable section

namespace Cert.KernelIdeal.Stage

open Idealize.ShloMosaic Idealize.SL.Sem
open Cert.KernelIdeal Cert.KernelIdeal.Gen

variable {F : FTy → Type} [FloatOps F]

/-- The arrays an exchange moves: the times it compares, and the two payloads that travel with them. -/
structure Arrays (F : FTy → Type) where
  tk : FVec F S128x128 .f32
  lo : FVec F S128x128 .bf16
  hi : FVec F S128x128 .bf16

/-- The positions whose number has the bit `j` clear. -/
def clear (j : ℕ) (lin : IVec S128x128 32) : IVec S128x128 1 :=
  cmpi .eq (andi lin (broadcast S128x128 (BitVec.ofNat 32 j))) (broadcast S128x128 0#32)

/-- The positions whose number has the bit `k` set. -/
def isSet (k : ℕ) (lin : IVec S128x128 32) : IVec S128x128 1 :=
  cmpi .ne (andi lin (broadcast S128x128 (BitVec.ofNat 32 k))) (broadcast S128x128 0#32)

/-- The element at distance `j`: ahead where the bit `j` is clear, behind where it is set. Distances of a row or more are
    rotations along the rows, the others along the lanes. -/
def across {α : Type} (j : ℕ) (lin : IVec S128x128 32) (x : S128x128.Idx → α) : S128x128.Idx → α :=
  match Nat.ble 128 j with
  | true => select (clear j lin) (dynamicRotate 0 (BitVec.ofNat 32 (128 - j / 128)) none x rotates_S128x128_d0)
      (dynamicRotate 0 (BitVec.ofNat 32 (j / 128)) none x rotates_S128x128_d0)
  | false => select (clear j lin) (dynamicRotate 1 (BitVec.ofNat 32 (128 - j)) none x rotates_S128x128_d1)
      (dynamicRotate 1 (BitVec.ofNat 32 j) none x rotates_S128x128_d1)

/-- The positions that take their partner's element. -/
def taken (k j : ℕ) (lin : IVec S128x128 32) (t : FVec F S128x128 .f32) : IVec S128x128 1 :=
  xori (xori (cmpf .olt (across j lin t) t) (xori (xori (clear j lin) (isSet k lin)) (constantI S128x128 1 1#1)))
    (constantI S128x128 1 1#1)

/-- One exchange. -/
def step (lin : IVec S128x128 32) (p : ℕ × ℕ) (s : Arrays F) : Arrays F where
  tk := select (taken p.1 p.2 lin s.tk) (across p.2 lin s.tk) s.tk
  lo := select (taken p.1 p.2 lin s.tk) (across p.2 lin s.lo) s.lo
  hi := select (taken p.1 p.2 lin s.tk) (across p.2 lin s.hi) s.hi

/-- A list of exchanges, first to last. -/
def run (lin : IVec S128x128 32) : List (ℕ × ℕ) → Arrays F → Arrays F
  | [], s => s
  | p :: l, s => run lin l (step lin p s)

/-- The exchanges in the order they run: block size and distance. -/
def net : List (ℕ × ℕ) := [
    (2, 1),
    (4, 2), (4, 1),
    (8, 4), (8, 2), (8, 1),
    (16, 8), (16, 4), (16, 2), (16, 1),
    (32, 16), (32, 8), (32, 4), (32, 2), (32, 1),
    (64, 32), (64, 16), (64, 8), (64, 4), (64, 2), (64, 1),
    (128, 64), (128, 32), (128, 16), (128, 8), (128, 4), (128, 2), (128, 1),
    (256, 128), (256, 64), (256, 32), (256, 16), (256, 8), (256, 4), (256, 2), (256, 1),
    (512, 256), (512, 128), (512, 64), (512, 32), (512, 16), (512, 8), (512, 4), (512, 2), (512, 1),
    (1024, 512), (1024, 256), (1024, 128), (1024, 64), (1024, 32), (1024, 16), (1024, 8), (1024, 4), (1024, 2), (1024, 1),
    (2048, 1024), (2048, 512), (2048, 256), (2048, 128), (2048, 64), (2048, 32), (2048, 16), (2048, 8), (2048, 4), (2048, 2), (2048, 1),
    (4096, 2048), (4096, 1024), (4096, 512), (4096, 256), (4096, 128), (4096, 64), (4096, 32), (4096, 16), (4096, 8), (4096, 4), (4096, 2), (4096, 1),
    (8192, 4096), (8192, 2048), (8192, 1024), (8192, 512), (8192, 256), (8192, 128), (8192, 64), (8192, 32), (8192, 16), (8192, 8), (8192, 4), (8192, 2), (8192, 1),
    (16384, 8192), (16384, 4096), (16384, 2048), (16384, 1024), (16384, 512), (16384, 256), (16384, 128), (16384, 64), (16384, 32), (16384, 16), (16384, 8), (16384, 4), (16384, 2), (16384, 1)]

/-- The times and payloads before the first exchange. -/
def start (t e h : Vec F S128x128 .f32) : Arrays F := ⟨k0_pay39 t, k0_pay45 e, k0_pay44 h⟩

/-- What the last grid point stores, of the arrays after the last exchange and the three sums taken before it. -/
def stored (t e h : Vec F S128x128 .f32) (s : Arrays F) : FVec F S1x1 .f32 :=
  have lane := iota .tc S128x128 32 [1] iota_S128x128_d1_w32
  have row := iota .tc S128x1 32 [0] iota_S128x1_d0_w32
  have acc := k0_pay672 lane (extf .f32 s.hi bitsLt_bf16_f32)
  k0_pay1 (k0_pay41 h) (k0_pay42 e h) (k0_pay43 e) (extf .f32 s.lo bitsLt_bf16_f32)
    (k0_pay674 acc (k0_pay673 lane) 64#32) row (k0_pay675 acc (k0_pay673 lane) 64#32)

/-- The last grid point: load the times, the events and the gathered scores, run the exchanges, store the loss. -/
def lastPoint (arg3 : Memref sig .tc .vmem S128x128 .f32) (arg4 : Memref sig .tc .vmem S128x128 .f32)
    (arg5 : Memref sig .tc .vmem S1x1 .f32) (arg6 : Memref sig .tc .vmem S128x128 .f32) :
    Prog (TpuEff nD τ sig (Elt F) Λ₀ .tc) PUnit := do
  let t : Vec F S128x128 .f32 ← Prog.lift (.load arg3 (Rect.unit (s := S128x128) ![0, 0] S128x128.size inb_S128x128_S128x128_0_0).toLoadRect (View.loadsAt_vmem h_S128x128))
  let e : Vec F S128x128 .f32 ← Prog.lift (.load arg4 (Rect.unit (s := S128x128) ![0, 0] S128x128.size inb_S128x128_S128x128_0_0).toLoadRect (View.loadsAt_vmem h_S128x128))
  let h : Vec F S128x128 .f32 ← Prog.lift (.load arg6 (Rect.unit (s := S128x128) ![0, 0] S128x128.size inb_S128x128_S128x128_0_0).toLoadRect (View.loadsAt_vmem h_S128x128))
  let _ : Vec F S1x1 .f32 ← Prog.lift (.load arg5 (Rect.unit (s := S1x1) ![0, 0] S1x1.size inb_S1x1_S1x1_0_0).toLoadRect (View.loadsAt_vmem h_S1x1))
  Prog.lift (.store arg5 (Rect.unit (s := S1x1) ![0, 0] S1x1.size inb_S1x1_S1x1_0_0) (stored t e h (run k0_pay46 net (start t e h))) Finset.univ (View.stores_vmem_bits_univ h_S1x1 rfl) (.inl rfl))
  pure ⟨⟩

end Cert.KernelIdeal.Stage

end
-- ==== Proof.RowsRun.lean ====
/-
  What storing rows of products leaves in the scratch, and what the two branches of the body leave in the memory.
-/
module

public import proofs.«01_k».proof.Proof.Rows
public import proofs.«01_k».proof.Proof.Stage
public import proofs.«01_k».proof.Proof.Gen.KernelIdeal.Frame
public import Idealize.ShloMosaic.Lib.WritesUnit
public import Idealize.ShloMosaic.Lib.WholeRead
public import Idealize.ShloMosaic.Lib.VecWindow
public import Idealize.ShloMosaic.Lib.Pointwise

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A load of the whole of a whole buffer reads the contents it holds. -/
theorem load_whole {sp : Space} {e : EltTy} {d : Fin 2 → ℕ} {M : Memref sig .tc sp ⟨2, d⟩ e} (h : M.IsWhole)
    (x : (⟨2, d⟩ : Shape).Idx → Elt F e) {off : Fin 2 → ℕ} (inb : ∀ a, off a + d a ≤ d a) (ho : ∀ a, off a = 0) :
    View.readAt (Elt F) M.view (Rect.unit (s := ⟨2, d⟩) off d inb).toLoadRect (h.unread x) = x := by
  funext j
  rw [h.readAt_unread]
  congr 1
  funext a
  apply Fin.ext
  show off a + 1 * (j a).val = (j a).val
  rw [ho a]
  omega

/-- Write piece `p` of the products `v` into its row of `d`: row `32 s + p`. -/
def setRow (s : ℕ) (v : FVec F S1x4096 .f32) (p : Fin 32) (d : Vec F S128x128 .f32) : Vec F S128x128 .f32 :=
  fun j => if (j 0).val = 32 * s + p.val then piece v p (ix2 (0 : Fin 1) (j 1 : Fin 128)) else d j

/-- Write the pieces `ps` one after another. -/
def setRows (s : ℕ) (v : FVec F S1x4096 .f32) : List (Fin 32) → Vec F S128x128 .f32 → Vec F S128x128 .f32
  | [], d => d
  | p :: ps, d => setRows s v ps (setRow s v p d)

/-- Reading the scratch after one row is stored over the contents `d`. -/
theorem read_store (i : grid0.Coords) (h : k0_cond1 i = 1#1) (arg6 : Memref sig .tc .vmem S128x128 .f32)
    (harg6 : arg6.IsWhole) (v : FVec F S1x4096 .f32) (p : Fin 32) (d : Vec F S128x128 .f32) :
    arg6.view.read (Elt F) (arg6.view.writes (Elt F) (harg6.unread d)
      [⟨Rect.unit (s := S128x128) (k0_off1 i (BitVec.ofNat 32 p.val)) S1x128.size (k0_off1_inb i h p), piece v p⟩])
      = setRow (i 0).val v p d := by
  funext j
  unfold setRow
  by_cases hj : (j 0).val = 32 * (i 0).val + p.val
  · rw [if_pos hj]
    exact View.read_writes_cons_rows_of_mem (d := ![128, 128]) (size := S1x128.size) (o := 32 * (i 0).val + p.val) arg6.view
      (harg6.unread d) (k0_off1_inb i h p) (piece v p) [] j (ix2 (0 : Fin 1) (j 1 : Fin 128)) (k0_off1_eq i p) hj rfl
  · rw [if_neg hj]
    refine (View.read_writes_cons_rows_of_not_mem (d := ![128, 128]) (size := S1x128.size) (W := 1) (o := 32 * (i 0).val + p.val) arg6.view
      (harg6.unread d) (k0_off1_inb i h p) (piece v p) [] j (k0_off1_eq i p) rfl
      (by omega)).trans ?_
    exact congrFun (harg6.read_unread d) j

/-- An entry of the scratch after the pieces `ps` are stored, `g` being what the piece of its row holds there. -/
theorem setRows_eq (s : ℕ) (v : FVec F S1x4096 .f32) (j : S128x128.Idx) (g : Elt F .f32)
    (hv : ∀ p : Fin 32, (j 0).val = 32 * s + p.val → piece v p (ix2 (0 : Fin 1) (j 1 : Fin 128)) = g) (ps : List (Fin 32)) :
    ∀ d : Vec F S128x128 .f32, (d j = g ∨ ∃ p ∈ ps, (j 0).val = 32 * s + p.val) → setRows s v ps d j = g := by
  induction ps with
  | nil =>
    intro d h
    rcases h with h | ⟨p, hp, -⟩
    · exact h
    · exact absurd hp (List.not_mem_nil)
  | cons p ps ih =>
    intro d h
    rw [setRows]
    apply ih
    by_cases hj : (j 0).val = 32 * s + p.val
    · left
      unfold setRow
      rw [if_pos hj]
      exact hv p hj
    · rcases h with h | ⟨q, hq, hjq⟩
      · left
        unfold setRow
        rw [if_neg hj]
        exact h
      · rcases List.mem_cons.mp hq with rfl | hq
        · exact absurd hjq hj
        · exact .inr ⟨q, hq, hjq⟩

set_option maxHeartbeats 4000000 in
/-- Storing the pieces `ps` leaves `setRows` of them in the scratch. -/
theorem storeRows_run (c : Dev nD) (i : grid0.Coords) (h : k0_cond1 i = 1#1) (arg6 : Memref sig .tc .vmem S128x128 .f32)
    (harg6 : arg6.IsWhole) (v : FVec F S1x4096 .f32) (E : Set ℕ) (ps : List (Fin 32)) :
    ∀ d : Vec F S128x128 .f32,
      (owns (c : Thread nD τ) arg6 fullShare d : sProp 𝕄)
        ⊢ wp frame (wpE (defs₀ (F := F)) Variants.none c none) E (storeRows i h arg6 v ps)
            (fun _ => owns (c : Thread nD τ) arg6 fullShare (setRows (i 0).val v ps d)) := by
  induction ps with
  | nil =>
    intro d
    unfold storeRows setRows
    iintro H
    sl_step
    iexact H
  | cons p ps ih =>
    intro d
    unfold storeRows
    rw [setRows, ← read_store i h arg6 harg6 v p d]
    unfold owns
    iintro ⟨%f, %hf, H⟩
    obtain rfl := harg6.eq_unread hf
    sl_exec
    iexists _; isplitr; swap; · iexact HstoreRows_1
    ipureintro; exact hstoreRows_0

set_option maxRecDepth 1000000 in
/-- At an earlier grid point the body is `earlierPoint`. -/
theorem body_earlier (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole) (h0 : k0_cond1 i = 1#1) (h1 : ¬ k0_cond2 i = 1#1) :
    cc0__fused_body (F := F) i arg1 harg1 arg2 harg2 arg3 harg3 arg4 harg4 arg5 harg5 arg6 harg6 = earlierPoint i h0 arg1 arg2 arg6 := by
  rw [cc0__fused_body_eq_skeleton]
  unfold cc0__fused_body_skel
  rw [dif_pos h0, dif_neg h1]
  rfl

set_option maxHeartbeats 1000000 in
/-- An earlier grid point leaves the 32 pieces of its products in their rows of the scratch and everything else as it was. -/
theorem run_earlier (c : Dev nD) (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole) (h0 : k0_cond1 i = 1#1) (h1 : ¬ k0_cond2 i = 1#1)
    (x0 : Vec F S4096x512 .f32) (x1 : Vec F S1x512 .f32) (d : Vec F S128x128 .f32) (E : Set ℕ) (K : PUnit → sProp 𝕄) :
    iprop(owns (c : Thread nD τ) arg1 fullShare x0 ∗ owns (c : Thread nD τ) arg2 fullShare x1 ∗ owns (c : Thread nD τ) arg6 fullShare d
        ∗ (iprop(owns (c : Thread nD τ) arg1 fullShare x0 ∗ owns (c : Thread nD τ) arg2 fullShare x1
            ∗ owns (c : Thread nD τ) arg6 fullShare (setRows (i 0).val (k0_pay2 x1 x0) pieces d)) -∗ K ⟨⟩))
      ⊢ wp frame (wpE (defs₀ (F := F)) Variants.none c none) E (cc0__fused_body i arg1 harg1 arg2 harg2 arg3 harg3 arg4 harg4 arg5 harg5 arg6 harg6) K := by
  rw [body_earlier i arg1 harg1 arg2 harg2 arg3 harg3 arg4 harg4 arg5 harg5 arg6 harg6 h0 h1]
  unfold earlierPoint
  have e1 : k0_pay2 x1 x0 = k0_pay2 (View.readAt (Elt F) arg2.view (Rect.unit ![0, 0] S1x512.size inb_S1x512_S1x512_0_0).toLoadRect (harg2.unread x1))
      (View.readAt (Elt F) arg1.view (Rect.unit ![0, 0] S4096x512.size inb_S4096x512_S4096x512_0_0).toLoadRect (harg1.unread x0)) := by
    congr 1
    · exact (load_whole harg2 x1 _ (by decide)).symm
    · exact (load_whole harg1 x0 _ (by decide)).symm
  rw [e1]
  generalize pieces = ps
  have hrun := fun v => storeRows_run (F := F) c i h0 arg6 harg6 v E ps
  unfold owns at *
  iintro ⟨⟨%f0, %hf0, H0⟩, ⟨%f1, %hf1, H1⟩, ⟨%f6, %hf6, H6⟩, Hk⟩
  obtain rfl := harg1.eq_unread hf0; obtain rfl := harg2.eq_unread hf1
  sl_exec
  iapply Hk
  isplitl [H0]
  · iexists _; isplitr; swap; · iexact H0
    ipureintro; exact hf0
  isplitl [H1]
  · iexists _; isplitr; swap; · iexact H1
    ipureintro; exact hf1
  iexists _; isplitr; swap; · iexact HstoreRows_1
  ipureintro; rw [hf6] at hstoreRows_0; exact hstoreRows_0

set_option maxHeartbeats 4000000 in
/-- The last grid point leaves in the result what it computes of the times, the events and the scratch, and everything else
    as it was. -/
theorem run_last (c : Dev nD) (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole)
    (t e h : Vec F S128x128 .f32) (E : Set ℕ) (K : PUnit → sProp 𝕄) :
    iprop(owns (c : Thread nD τ) arg3 fullShare t ∗ owns (c : Thread nD τ) arg4 fullShare e ∗ (∃ d, owns (c : Thread nD τ) arg5 fullShare d)
        ∗ owns (c : Thread nD τ) arg6 fullShare h
        ∗ (iprop(owns (c : Thread nD τ) arg3 fullShare t ∗ owns (c : Thread nD τ) arg4 fullShare e
            ∗ owns (c : Thread nD τ) arg5 fullShare (Stage.stored t e h (Stage.run k0_pay46 Stage.net (Stage.start t e h)))
            ∗ owns (c : Thread nD τ) arg6 fullShare h) -∗ K ⟨⟩))
      ⊢ wp frame (wpE (defs₀ (F := F)) Variants.none c none) E (Stage.lastPoint arg3 arg4 arg5 arg6) K := by
  unfold Stage.lastPoint
  have et := load_whole harg3 t inb_S128x128_S128x128_0_0 (by decide)
  have ee := load_whole harg4 e inb_S128x128_S128x128_0_0 (by decide)
  have eh := load_whole harg6 h inb_S128x128_S128x128_0_0 (by decide)
  unfold owns
  iintro ⟨⟨%f3, %hf3, H3⟩, ⟨%f4, %hf4, H4⟩, ⟨%d5, %f5, -, H5⟩, ⟨%f6, %hf6, H6⟩, Hk⟩
  obtain rfl := harg3.eq_unread hf3; obtain rfl := harg4.eq_unread hf4; obtain rfl := harg6.eq_unread hf6
  generalize hS : (fun t e h => Stage.stored (F := F) t e h (Stage.run k0_pay46 Stage.net (Stage.start t e h))) = S
  have hS' : ∀ t e h, Stage.stored (F := F) t e h (Stage.run k0_pay46 Stage.net (Stage.start t e h)) = S t e h := fun t e h => by rw [← hS]
  simp only [hS']
  sl_exec
  sl_step
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact View.read_writes_full _ _ _ _ _
  iexists _; isplitr; swap; · iexact H6
  ipureintro; exact hf6

end Cert.KernelIdeal.Rows

end
-- ==== Proof.LastPoint.lean ====
/-
  The printed second branch of the body, a chain of sixty-five parts, is the short program `Stage.lastPoint`.
-/
module

public import proofs.«01_k».proof.Proof.Stage

@[expose] public section

noncomputable section

namespace Cert.KernelIdeal.Stage

open Idealize.ShloMosaic Idealize.SL.Sem
open Cert.KernelIdeal Cert.KernelIdeal.Gen

variable {F : FTy → Type} [FloatOps F]

set_option maxRecDepth 1000000 in
set_option maxHeartbeats 40000000 in
/-- The second branch of the body, which prints as a chain of parts of some thirty operations each, is `lastPoint`. -/
theorem lastPoint_eq (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole) :
  (do
    let ⟨v14, v22, v26, v37, v40, v2161_lo, v2161_hi, v2169, v2177, v2178⟩ ← k0_part71 i arg1 harg1 arg2 harg2 arg3 harg3 arg4 harg4 arg5 harg5 arg6 harg6
    let ⟨v2199, v2203_lo, v2203_hi, v2207, v2211, v2212, c2_i32_1026⟩ ← k0_part67 i arg1 harg1 arg2 harg2 arg3 harg3 arg4 harg4 arg5 harg5 arg6 harg6 v40 v2161_lo v2161_hi v2169 v2177 v2178
    let ⟨v2244_lo, v2249⟩ ← k0_part68 i arg1 harg1 arg2 harg2 arg3 harg3 arg4 harg4 arg5 harg5 arg6 harg6 v40 v2199 v2203_lo v2203_hi v2207 v2211 v2212 c2_i32_1026
    let ⟨v2254, v2290, v2292, c64_i32_1061⟩ ← k0_part69 i arg1 harg1 arg2 harg2 arg3 harg3 arg4 harg4 arg5 harg5 arg6 harg6 v37 v2244_lo v2249
    let ⟨v2296, v2298, v2333⟩ ← k0_part70 i arg1 harg1 arg2 harg2 arg3 harg3 arg4 harg4 arg5 harg5 arg6 harg6 v2290 v2292 c64_i32_1061
    let v2362 : Vec F S1x1 .f32 ← Prog.lift (.load arg5 (Rect.unit (s := S1x1) ![0, 0] S1x1.size inb_S1x1_S1x1_0_0).toLoadRect (View.loadsAt_vmem h_S1x1))
    Prog.lift (.store arg5 (Rect.unit (s := S1x1) ![0, 0] S1x1.size inb_S1x1_S1x1_0_0) (k0_pay1 v14 v22 v26 v2254 v2296 v2298 v2333) Finset.univ (View.stores_vmem_bits_univ h_S1x1 rfl) (.inl rfl))
    pure ⟨⟩ : Prog (TpuEff nD τ sig (Elt F) Λ₀ .tc) PUnit)
   = lastPoint arg3 arg4 arg5 arg6 := rfl

end Cert.KernelIdeal.Stage

end
-- ==== Proof.KRun.lean ====
/-
  The kernel's run with its value: what the scratch holds before each grid point, the body's obligation, the launch.
-/
module

public import proofs.«01_k».proof.Proof.RowsRun
public import proofs.«01_k».proof.Proof.LastPoint
public import Idealize.ShloMosaic.Lib.Claim
public import Idealize.ShloMosaic.Lib.Pipeline.ValueKit

@[expose] public section

set_option maxRecDepth 16384

noncomputable section

namespace Cert.KernelIdeal.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at the points before the last. -/
theorem cond1_iff : ∀ t : Fin cfg0.N, k0_cond1 (grid0.coords t) = 1#1 ↔ t.val < 4 :=
  (by decide +kernel : ∀ t : Fin grid0.N, k0_cond1 (grid0.coords t) = 1#1 ↔ t.val < 4)
/-- The second branch is taken at the last point. -/
theorem cond2_iff : ∀ t : Fin cfg0.N, k0_cond2 (grid0.coords t) = 1#1 ↔ t.val = 4 :=
  (by decide +kernel : ∀ t : Fin grid0.N, k0_cond2 (grid0.coords t) = 1#1 ↔ t.val = 4)
/-- The one grid coordinate of a point is its number. -/
theorem coord_val : ∀ t : Fin cfg0.N, (grid0.coords t 0).val = t.val :=
  (by decide +kernel : ∀ t : Fin grid0.N, (grid0.coords t 0).val = t.val)

/-- At the last point the body is its second branch. -/
theorem body_last (i : grid0.Coords) (arg1 : Memref sig .tc .vmem S4096x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x1 .f32) (harg5 : arg5.IsWhole) (arg6 : Memref sig .tc .vmem S128x128 .f32) (harg6 : arg6.IsWhole) (h0 : ¬ k0_cond1 i = 1#1) (h1 : k0_cond2 i = 1#1) :
    cc0__fused_body (F := F) i arg1 harg1 arg2 harg2 arg3 harg3 arg4 harg4 arg5 harg5 arg6 harg6 = Stage.lastPoint arg3 arg4 arg5 arg6 := by
  rw [cc0__fused_body_eq_skeleton]
  unfold cc0__fused_body_skel
  rw [dif_neg h0, dif_pos h1]
  exact Stage.lastPoint_eq i arg1 harg1 arg2 harg2 arg3 harg3 arg4 harg4 arg5 harg5 arg6 harg6

/-- The grid point that stores row `j 0` of the scratch. -/
def pointOf (j : S128x128.Idx) : Fin cfg0.N := ⟨(j 0).val / 32, by
  have h : (j 0).val < 128 := (j 0).isLt
  have e : cfg0.N = 5 := N_0
  omega⟩

/-- The products gathered in the scratch by the last point: entry `j` is the product of its point's block. -/
def scores (c : Dev nD) : Vec F S128x128 .f32 := fun j =>
  piece (k0_pay2 (iblk m c 1 (pointOf j)) (iblk m c 0 (pointOf j))) ⟨(j 0).val % 32, Nat.mod_lt _ (by decide)⟩
    (ix2 (0 : Fin 1) (j 1 : Fin 128))

/-- The last point's result, of the blocks of times and events at a point. -/
def loss (c : Dev nD) (t : Fin cfg0.N) : Vec F S1x1 .f32 :=
  Stage.stored (iblk m c 2 t) (iblk m c 3 t) (scores m c)
    (Stage.run k0_pay46 Stage.net (Stage.start (iblk m c 2 t) (iblk m c 3 t) (scores m c)))

abbrev ms0_0 (t : Fin cfg0.N) : Memref sig .tc .vmem S4096x512 .f32 := win0_0.stage (cfg0.slots t 0)
abbrev ms0_1 (t : Fin cfg0.N) : Memref sig .tc .vmem S1x512 .f32 := win0_1.stage (cfg0.slots t 1)
abbrev ms0_2 (t : Fin cfg0.N) : Memref sig .tc .vmem S128x128 .f32 := win0_2.stage (cfg0.slots t 2)
abbrev ms0_3 (t : Fin cfg0.N) : Memref sig .tc .vmem S128x128 .f32 := win0_3.stage (cfg0.slots t 3)
abbrev ms0_4 (t : Fin cfg0.N) : Memref sig .tc .vmem S1x1 .f32 := win0_4.stage (cfg0.slots t 4)
/-- The scratch. -/
abbrev scr : Memref sig .tc .vmem S128x128 .f32 := Memref.whole cc0_scratch0

/-- What holds before point `n`: the scratch holds the products of the rows the points before `n` stored. -/
def held (c : Dev nD) (n : ℕ) : sProp 𝕄 :=
  iprop((∃ d, ⌜∀ j : S128x128.Idx, (j 0).val < 32 * n → d j = scores m c j⌝ ∗ owns (c : Thread nD τ) scr fullShare d) ∗ (∃ r, prngReg c r))

/-- The launch set-up's invariant is the scratch at anything and the generator's register. -/
theorem ΦA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

theorem held_zero (c : Dev nD) : (Pipeline.ΦA spec0 c : sProp 𝕄) ⊢ held m c 0 := by
  rw [ΦA_eq]; unfold held
  iintro ⟨⟨%d, H⟩, Hg⟩
  isplitl [H]
  · iexists d; isplitr; swap; · iexact H
    ipureintro; intro j hj; exact absurd hj (by omega)
  iexact Hg

theorem held_forget (c : Dev nD) (n : ℕ) : held m c n ⊢ (Pipeline.ΦA spec0 c : sProp 𝕄) := by
  rw [ΦA_eq]; unfold held
  iintro ⟨⟨%d, -, H⟩, Hg⟩
  isplitl [H]
  · iexists d; iexact H
  iexact Hg

/-- The pipeline's proof data: the inputs' blocks, the last point's result, `held`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => loss m c t
  Φ t := held m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = loss m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The inputs are never idle; the result is idle before the last point, where it is not written back. -/
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem idle4 (t : Fin cfg0.N) (h : ¬ k0_cond2 (grid0.coords t) = 1#1) : cfg0.idle 4 (grid0.coords t) = true := by
  show (!(k0_cond2 (grid0.coords t) == 1#1)) = true
  rw [beq_eq_false_iff_ne.mpr h]; rfl
theorem live4 (t : Fin cfg0.N) (h : k0_cond2 (grid0.coords t) = 1#1) : cfg0.idle 4 (grid0.coords t) = false := by
  show (!(k0_cond2 (grid0.coords t) == 1#1)) = false
  rw [h]; rfl

/-- What an earlier point leaves in the scratch agrees with the gathered products one block further. -/
theorem filled (c : Dev nD) (t : Fin cfg0.N) (d : Vec F S128x128 .f32)
    (hd : ∀ j : S128x128.Idx, (j 0).val < 32 * t.val → d j = scores m c j) (j : S128x128.Idx) (hj : (j 0).val < 32 * (t.val + 1)) :
    setRows (grid0.coords t 0).val (k0_pay2 (iblk m c 1 t) (iblk m c 0 t)) pieces d j = scores m c j := by
  rw [coord_val]
  apply setRows_eq
  · intro p hp
    have e : pointOf j = t := Fin.ext (by show (j 0).val / 32 = t.val; omega)
    have ep : (⟨(j 0).val % 32, Nat.mod_lt _ (by decide)⟩ : Fin 32) = p := Fin.ext (by show (j 0).val % 32 = p.val; omega)
    unfold scores
    rw [e, ep]
  · by_cases h : (j 0).val < 32 * t.val
    · exact .inl (hd j h)
    · right
      refine ⟨⟨(j 0).val - 32 * t.val, by omega⟩, ?_, by show (j 0).val = 32 * t.val + ((j 0).val - 32 * t.val); omega⟩
      exact (by decide : ∀ p : Fin 32, p ∈ pieces) _

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = held m c (t.val + 1) from rfl,
    show (dats m 0 c).owesAt () t.succ = (dats m 0 c).owesAt () t.castSucc from rfl,
    show (dats m 0 c).Φ t.castSucc = held m c t.val from rfl]
  rw [show (dats m 0 c).leavesExact 0 t = owns (c : Thread nD τ) (ms0_0 t) fullShare ((dats m 0 c).after 0 t) from by
      unfold Dat.leavesExact; rw [live0 t], after0_0]
  rw [show (dats m 0 c).leavesExact 1 t = owns (c : Thread nD τ) (ms0_1 t) fullShare ((dats m 0 c).after 1 t) from by
      unfold Dat.leavesExact; rw [live1 t], after0_1]
  rw [show (dats m 0 c).leavesExact 2 t = owns (c : Thread nD τ) (ms0_2 t) fullShare ((dats m 0 c).after 2 t) from by
      unfold Dat.leavesExact; rw [live2 t], after0_2]
  rw [show (dats m 0 c).leavesExact 3 t = owns (c : Thread nD τ) (ms0_3 t) fullShare ((dats m 0 c).after 3 t) from by
      unfold Dat.leavesExact; rw [live3 t], after0_3]
  have hN : t.val < 5 := lt_of_lt_of_eq t.isLt (show cfg0.N = 5 from N_0)
  unfold held
  by_cases h0 : t.val < 4
  · have hc2 : ¬ k0_cond2 (grid0.coords t) = 1#1 := fun h => by have := (cond2_iff t).mp h; omega
    have hfl : (cfg0.win 4).flush t = false := by
      by_contra h
      have := (flush0_4 t).mp (by simpa using h)
      omega
    rw [Dat.leavesExact_idle (dats m 0 c) 4 t (idle4 t hc2) hfl]
    iintro ⟨⟨⟨%ds, %hds, HS⟩, Hg⟩, Ho, ⟨%d0, H0⟩, ⟨%d1, H1⟩, ⟨%d2, H2⟩, ⟨%d3, H3⟩, H4⟩
    iapply (run_earlier c (grid0.coords t) _ _ _ _ _ _ _ _ _ _ _ (Memref.isWhole_whole _) ((cond1_iff t).mpr h0) hc2 (iblk m c 0 t) (iblk m c 1 t) ds Set.univ _)
    isplitl [H0]; · iexact H0
    isplitl [H1]; · iexact H1
    isplitl [HS]; · iexact HS
    iintro ⟨H0, H1, HS⟩
    isplitl [HS Hg]
    · isplitl [HS]
      · iexists _; isplitr; swap; · iexact HS
        ipureintro; exact fun j hj => filled m c t ds hds j hj
      iexact Hg
    isplitl [Ho]; · iexact Ho
    isplitl [H0]; · iexact H0
    isplitl [H1]; · iexact H1
    isplitl [H2]; · iexact H2
    isplitl [H3]; · iexact H3
    iexact H4
  · have h4 : t.val = 4 := by omega
    have hc1 : ¬ k0_cond1 (grid0.coords t) = 1#1 := fun h => h0 ((cond1_iff t).mp h)
    have hc2 := (cond2_iff t).mpr h4
    rw [show (dats m 0 c).leavesExact 4 t = owns (c : Thread nD τ) (ms0_4 t) fullShare ((dats m 0 c).after 4 t) from by
      unfold Dat.leavesExact; rw [live4 t hc2], after0_4]
    iintro ⟨⟨⟨%ds, %hds, HS⟩, Hg⟩, Ho, ⟨%d0, H0⟩, ⟨%d1, H1⟩, ⟨%d2, H2⟩, ⟨%d3, H3⟩, ⟨%d4, H4⟩⟩
    have eds : ds = scores m c := funext fun j => hds j (by have h : (j 0).val < 128 := (j 0).isLt; omega)
    subst eds
    rw [body_last _ _ _ _ _ _ _ _ _ _ _ _ _ hc1 hc2]
    iapply (run_last c (grid0.coords t) (ms0_0 t) (hstage0_0 ((cfg0.slots t 0).cast nbuf0_0)) (ms0_1 t) (hstage0_1 ((cfg0.slots t 1).cast nbuf0_1))
      (ms0_2 t) (hstage0_2 ((cfg0.slots t 2).cast nbuf0_2)) (ms0_3 t) (hstage0_3 ((cfg0.slots t 3).cast nbuf0_3)) (ms0_4 t) (hstage0_4 ((cfg0.slots t 4).cast nbuf0_4)) scr (Memref.isWhole_whole _) (iblk m c 2 t) (iblk m c 3 t) (scores m c) Set.univ _)
    isplitl [H2]; · iexact H2
    isplitl [H3]; · iexact H3
    isplitl [H4]; · iexists _; iexact H4
    isplitl [HS]; · iexact HS
    iintro ⟨H2, H3, H4, HS⟩
    isplitl [HS Hg]
    · isplitl [HS]
      · iexists _; isplitr; swap; · iexact HS
        ipureintro; exact fun j hj => rfl
      iexact Hg
    isplitl [Ho]; · iexact Ho
    isplitl [H0]; · iexact H0
    isplitl [H1]; · iexact H1
    isplitl [H2]; · iexact H2
    isplitl [H3]; · iexact H3
    iexact H4

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- The launch: every array ends as the proof data name it, every other buffer as the host lines leave it, every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := fun c => held_zero m c) (hout := fun c => held_forget m c _)

/-- The frame: the arguments end as they started and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_all m ρ)))
    ((θ_run defs _ _).mono (fun _ h => h.2) (run_all m ρ))

/-! ## The result -/

/-- The last point. -/
def lastPt : Fin cfg0.N := ⟨4, by rw [show cfg0.N = 5 from N_0]; omega⟩

/-- The result's array at the end is what the last point stores. -/
theorem arr_result (c : Dev nD) : (dats m 0 c).arrAt 4 cfg0.N = loss m c lastPt := by
  refine (dats m 0 c).arrAt_eq_of_after_last 4 lastPt (by decide +kernel) _ fun j => ?_
  blk_simp
  rw [after0_4]

/-- The scalar the kernel returns is the last point's result. -/
theorem tail_result (c : Dev nD) :
    Pipeline.afterTail₀ cfgs (dats m) 0 (V0 m) [hostOps1] c main_v8 = shapeCast _ (loss m c lastPt) shapeCasts_S1x1_S_ := by
  unfold Pipeline.afterTail₀
  simp only [hostOps1, List.flatten_cons, List.flatten_nil, List.append_nil]
  rw [← arr_result m c]
  after_results_simp
  have e := Pipeline.withArrays_arr spec0 launch0.win.arr_inj c (V0 m c) (fun w => (dats m 0 c).arrAt w (cfgs 0).N) 4
  exact congrArg (fun x => shapeCast S_ x shapeCasts_S1x1_S_) e

/-- What the kernel's program computes: its result is the last point's, its arguments end as they started. -/
theorem run : θ_run defs (onTc (τ := τ) (main (F := F))) ⟨m, fun _ => 0, ρ⟩ (fun r => ∀ c : Dev nD,
      r.2.mem ((c.tc : Thread nD τ).loc main_v8) = shapeCast S_ (loss m c lastPt) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).2 main_v8 (Pipeline.mem_restRefs_of main_v8 (by decide) (by decide))).trans (tail_result m c), h.1.1 c⟩)
    (θ_run_and (frame m ρ) (run_all m ρ))

end Cert.KernelIdeal.Rows

end
-- ==== Proof.Network.lean ====
/-
  What one exchange of the kernel's network does to its arrays: it is one stage of the bitonic network on 16384 positions.
-/
module

public import proofs.«01_k».proof.Proof.Stage
public import Idealize.ShloMosaic.Lib.Pointwise
public import Idealize.ShloMosaic.Lib.SortNet.Keyed
public import Idealize.ShloMosaic.Lib.SortNet.Sorts

@[expose] public section

set_option maxRecDepth 16384

noncomputable section

namespace Cert.KernelIdeal.Stage

open Idealize.ShloMosaic Idealize.ShloMosaic.SortNet Idealize.SL.Sem
open Cert.KernelIdeal Cert.KernelIdeal.Gen

/-- The element of the 128 × 128 arrays that has number `p`, row by row. -/
def cell (p : Fin (2 ^ 14)) : S128x128.Idx :=
  ix2 (⟨p.val / 128, by have := p.isLt; omega⟩ : Fin 128) (⟨p.val % 128, by omega⟩ : Fin 128)

/-- The kernel's array of numbers holds at each element its number. -/
theorem lin_cell (p : Fin (2 ^ 14)) : k0_pay46 (cell p) = BitVec.ofNat 32 p.val := by
  unfold k0_pay46 cell
  pointwise
  have h := p.isLt
  apply BitVec.eq_of_toNat_eq
  unfold IntOp.addi IntOp.muli
  simp only [BitVec.toNat_add, BitVec.toNat_mul, BitVec.toNat_ofNat]
  omega

/-- A masked number is zero as a word where it is zero as a number. -/
theorem word_and_eq_zero (p : Fin (2 ^ 14)) (j : ℕ) :
    IntOp.andi (BitVec.ofNat 32 p.val) (BitVec.ofNat 32 j) = 0#32 ↔ p.val &&& j = 0 := by
  unfold IntOp.andi
  rw [← BitVec.ofNat_and]
  have h : p.val &&& j < 2 ^ 32 := lt_of_le_of_lt Nat.and_le_left (lt_trans p.isLt (by norm_num))
  constructor
  · intro e
    have := congrArg BitVec.toNat e
    simpa only [BitVec.toNat_ofNat, Nat.mod_eq_of_lt h, Nat.zero_mod] using this
  · intro e; rw [e]

/-- The mask of the positions whose bit is clear. -/
theorem clear_cell (j : ℕ) (p : Fin (2 ^ 14)) : clear j k0_pay46 (cell p) = BitVec.ofBool (decide (p.val &&& j = 0)) := by
  unfold clear
  pointwise
  rw [lin_cell]
  by_cases h : p.val &&& j = 0
  · rw [(word_and_eq_zero p j).mpr h, decide_eq_true h]; rfl
  · rw [decide_eq_false h]
    have h' := mt (word_and_eq_zero p j).mp h
    show BitVec.ofBool (_ == _) = _
    rw [beq_eq_false_iff_ne.mpr h']

/-- The mask of the positions whose bit is set. -/
theorem isSet_cell (k : ℕ) (p : Fin (2 ^ 14)) : isSet k k0_pay46 (cell p) = BitVec.ofBool (decide (p.val &&& k ≠ 0)) := by
  unfold isSet
  pointwise
  rw [lin_cell]
  by_cases h : p.val &&& k = 0
  · rw [(word_and_eq_zero p k).mpr h, decide_eq_false (not_not.mpr h)]; rfl
  · rw [decide_eq_true h]
    have h' := mt (word_and_eq_zero p k).mp h
    show BitVec.ofBool (!(_ == _)) = _
    rw [beq_eq_false_iff_ne.mpr h']; rfl

/-- Choosing by a bit made of a truth value. -/
theorem select_ofBool {α : Type} (b : Bool) (x y : α) : Scalar.select (BitVec.ofBool b) x y = if b then x else y := by
  cases b <;> rfl

/-- Flipping a bit of a number below 128 is moving ahead by it where it is clear, behind by it where it is set. -/
theorem flip_bit : ∀ s : Fin 7, ∀ a : Fin 128, a.val ^^^ 2 ^ s.val
    = if a.val &&& 2 ^ s.val = 0 then (a.val + 128 - (128 - 2 ^ s.val)) % 128 else (a.val + 128 - 2 ^ s.val) % 128 := by
  decide +kernel

/-- Rotating along the lanes. -/
theorem rotate_lanes {α : Type} (n : ℕ) (hn : n < 128) (x : S128x128.Idx → α) (r l : Fin 128) :
    dynamicRotate 1 (BitVec.ofNat 32 n) none x rotates_S128x128_d1 (ix2 r l)
      = x (ix2 r ⟨(l.val + 128 - n) % 128, Nat.mod_lt _ (by norm_num)⟩) := by
  pointwise
  congr 3
  rw [BitVec.toNat_ofNat]
  omega

/-- Rotating along the rows. -/
theorem rotate_rows {α : Type} (n : ℕ) (hn : n < 128) (x : S128x128.Idx → α) (r l : Fin 128) :
    dynamicRotate 0 (BitVec.ofNat 32 n) none x rotates_S128x128_d0 (ix2 r l)
      = x (ix2 ⟨(r.val + 128 - n) % 128, Nat.mod_lt _ (by norm_num)⟩ l) := by
  pointwise
  congr 3
  rw [BitVec.toNat_ofNat]
  omega

/-- The element across a distance of a power of two is the one whose number has that bit flipped. -/
theorem across_cell {α : Type} {s : ℕ} (hs : s < 14) (x : S128x128.Idx → α) (p : Fin (2 ^ 14)) :
    across (2 ^ s) k0_pay46 x (cell p) = x (cell (partner 14 s p)) := by
  have hp := p.isLt
  by_cases h7 : s < 7
  · have hb : Nat.ble 128 (2 ^ s) = false := by
      have : 2 ^ s < 2 ^ 7 := Nat.pow_lt_pow_right (by norm_num) h7
      have h2 : ¬ Nat.ble 128 (2 ^ s) = true := fun h => by have := Nat.le_of_ble_eq_true h; omega
      exact Bool.eq_false_iff.mpr h2
    have hpow : 0 < 2 ^ s ∧ 2 ^ s < 128 := ⟨Nat.two_pow_pos s, by simpa using Nat.pow_lt_pow_right (a := 2) (by norm_num) h7⟩
    have hr : (p.val ^^^ 2 ^ s) / 128 = p.val / 128 := by
      rw [show (128 : ℕ) = 2 ^ 7 by norm_num, Nat.xor_div_two_pow, Nat.div_eq_of_lt (a := 2 ^ s) (by simpa using hpow.2), Nat.xor_zero]
    have hl : (p.val ^^^ 2 ^ s) % 128 = p.val % 128 ^^^ 2 ^ s := by
      rw [show (128 : ℕ) = 2 ^ 7 by norm_num, Nat.xor_mod_two_pow, Nat.mod_eq_of_lt (a := 2 ^ s) (by simpa using hpow.2)]
    have ha : p.val % 128 &&& 2 ^ s = p.val &&& 2 ^ s := by
      rw [show (128 : ℕ) = 2 ^ 7 by norm_num]
      have e := Nat.and_mod_two_pow (a := p.val) (b := 2 ^ s) (n := 7)
      rw [Nat.mod_eq_of_lt (a := 2 ^ s) (by simpa using hpow.2)] at e
      rw [← e, Nat.mod_eq_of_lt]
      exact lt_of_le_of_lt Nat.and_le_right (by simpa using hpow.2)
    have hf := flip_bit ⟨s, h7⟩ ⟨p.val % 128, by omega⟩
    simp only at hf
    unfold across
    rw [hb]
    show Scalar.select (clear (2 ^ s) k0_pay46 (cell p)) _ _ = _
    rw [clear_cell, select_ofBool]
    unfold cell
    rw [rotate_lanes _ (by omega), rotate_lanes _ (by omega)]
    rw [ha] at hf
    simp only [partner_val hs, hr, hl, hf]
    by_cases hc : p.val &&& 2 ^ s = 0
    · simp only [hc, decide_true, if_true]
    · simp only [hc, decide_false, if_false, Bool.false_eq_true]
  · obtain ⟨u, rfl⟩ : ∃ u, s = u + 7 := ⟨s - 7, by omega⟩
    have hu : u < 7 := by omega
    have hb : Nat.ble 128 (2 ^ (u + 7)) = true := by
      apply Nat.ble_eq_true_of_le
      rw [Nat.pow_add]
      have := Nat.two_pow_pos u
      omega
    have hpow : 0 < 2 ^ u ∧ 2 ^ u < 128 := ⟨Nat.two_pow_pos u, by simpa using Nat.pow_lt_pow_right (a := 2) (by norm_num) hu⟩
    have hd : 2 ^ (u + 7) / 128 = 2 ^ u := by rw [Nat.pow_add]; omega
    have hm : 2 ^ (u + 7) % 128 = 0 := by rw [Nat.pow_add]; omega
    have hr : (p.val ^^^ 2 ^ (u + 7)) / 128 = p.val / 128 ^^^ 2 ^ u := by
      rw [show (p.val ^^^ 2 ^ (u + 7)) / 128 = (p.val ^^^ 2 ^ (u + 7)) / 2 ^ 7 by norm_num, Nat.xor_div_two_pow]
      rw [show (2 : ℕ) ^ 7 = 128 by norm_num, hd]
    have hl : (p.val ^^^ 2 ^ (u + 7)) % 128 = p.val % 128 := by
      rw [show (p.val ^^^ 2 ^ (u + 7)) % 128 = (p.val ^^^ 2 ^ (u + 7)) % 2 ^ 7 by norm_num, Nat.xor_mod_two_pow]
      rw [show (2 : ℕ) ^ 7 = 128 by norm_num, hm, Nat.xor_zero]
    have ha : p.val / 128 &&& 2 ^ u = 0 ↔ p.val &&& 2 ^ (u + 7) = 0 := by
      have e := Nat.and_div_two_pow (a := p.val) (b := 2 ^ (u + 7)) (n := 7)
      rw [show (2 : ℕ) ^ 7 = 128 by norm_num, hd] at e
      have e2 := Nat.and_mod_two_pow (a := p.val) (b := 2 ^ (u + 7)) (n := 7)
      rw [show (2 : ℕ) ^ 7 = 128 by norm_num, hm, Nat.and_zero] at e2
      rw [← e]
      omega
    have hf := flip_bit ⟨u, hu⟩ ⟨p.val / 128, by omega⟩
    simp only at hf
    unfold across
    rw [hb]
    show Scalar.select (clear (2 ^ (u + 7)) k0_pay46 (cell p)) _ _ = _
    rw [clear_cell, select_ofBool]
    unfold cell
    rw [hd, rotate_rows _ (by omega), rotate_rows _ (by omega)]
    simp only [partner_val hs, hr, hl, hf]
    by_cases hc : p.val &&& 2 ^ (u + 7) = 0
    · simp only [hc, ha.mpr hc, decide_true, if_true]
    · simp only [hc, mt ha.mp hc, decide_false, if_false, Bool.false_eq_true]

/-- The positions that take their partner's element: where the comparison, the position's bit and its block's direction
    differ an odd number of times. -/
theorem taken_cell {s : ℕ} (hs : s < 14) (k : ℕ) (t : FVec Ideal S128x128 .f32) (p : Fin (2 ^ 14)) :
    taken k (2 ^ s) k0_pay46 t (cell p)
      = BitVec.ofBool (xor (decide (t (cell (partner 14 s p)) < t (cell p))) (xor (decide (p.val &&& 2 ^ s = 0)) (decide (p.val &&& k ≠ 0)))) := by
  unfold taken
  pointwise
  rw [across_cell hs, clear_cell, isSet_cell]
  generalize decide (t (cell (partner 14 s p)) < t (cell p)) = a
  generalize decide (p.val &&& 2 ^ s = 0) = b
  generalize decide (p.val &&& k ≠ 0) = c
  revert a b c
  decide

/-- The direction of the exchange of size `2 ^ (l + 1)` at a position: where that bit is clear the greater goes to the earlier. -/
abbrev ahead (l : ℕ) (i : Fin (2 ^ 14)) : Bool := (decide (i.val &&& 2 ^ (l + 1) = 0)) == true

/-- Flipping one bit does not move another. -/
theorem partner_and_other {s k : ℕ} (hs : s < 14) (hk : s ≠ k) (i : Fin (2 ^ 14)) :
    (partner 14 s i).val &&& 2 ^ k = i.val &&& 2 ^ k := by
  rw [partner_val hs, Nat.and_xor_distrib_right]
  have : 2 ^ s &&& 2 ^ k = 0 := by
    apply Nat.eq_of_testBit_eq
    intro b
    rw [Nat.testBit_and, Nat.testBit_two_pow, Nat.testBit_two_pow, Nat.zero_testBit]
    by_cases h : s = b
    · have : k ≠ b := fun h' => hk (h.trans h'.symm)
      simp [this]
    · simp [h]
  rw [this, Nat.xor_zero]

/-- One stage of the network at a position, where the keys differ: it takes its partner's entry where the comparison, the
    position's bit and its block's direction differ an odd number of times. -/
theorem stage_at {α : Type} [LinearOrder α] {s l : ℕ} (hs : s < 14) (hsl : s ≤ l) (key : Fin (2 ^ 14) → α)
    (hkey : Function.Injective key) (v : Fin (2 ^ 14) → Fin (2 ^ 14)) (hv : Function.Injective v) (p : Fin (2 ^ 14)) :
    Network.applyBy key (stage 14 s (ahead l)) v p
      = if xor (decide (key (v (partner 14 s p)) < key (v p))) (xor (decide (p.val &&& 2 ^ s = 0)) (decide (p.val &&& 2 ^ (l + 1) ≠ 0)))
        then v (partner 14 s p) else v p := by
  -- the pair's two positions, whichever of them `p` is
  have pair : ∀ i : Fin (2 ^ 14), i.val &&& 2 ^ s = 0 →
      Network.applyBy key (stage 14 s (ahead l)) v i
        = (if xor (decide (key (v (partner 14 s i)) < key (v i))) (xor true (decide (i.val &&& 2 ^ (l + 1) ≠ 0)))
            then v (partner 14 s i) else v i)
      ∧ Network.applyBy key (stage 14 s (ahead l)) v (partner 14 s i)
        = (if xor (decide (key (v i) < key (v (partner 14 s i)))) (xor false (decide (i.val &&& 2 ^ (l + 1) ≠ 0)))
            then v i else v (partner 14 s i)) := by
    intro i hi
    have hne : i ≠ partner 14 s i := fun h => partner_ne hs i i hi hi h.symm
    have hk : key (v i) ≠ key (v (partner 14 s i)) := fun h => hne (hv (hkey h))
    have hmem : stageCmpx 14 s (ahead l) i hne ∈ stage 14 s (ahead l) := mem_stage.mpr ⟨i, hi, hne, rfl⟩
    have h := Network.applyBy_of_mem_of_disjoint key _ (stage_pairwise_disjoint hs (ahead l)) _ hmem v
    unfold stageCmpx at h
    by_cases hw : i.val &&& 2 ^ (l + 1) = 0
    · have hw' : ahead l i = true := by simp [ahead, hw]
      simp only [hw', if_true] at h
      rw [h.1, h.2]
      rcases lt_or_gt_of_ne hk with h1 | h1
      · simp [hw, h1, not_lt_of_gt h1]
      · simp [hw, h1, not_lt_of_gt h1]
    · have hw' : ahead l i = false := by simp [ahead, hw]
      simp only [hw', Bool.false_eq_true, if_false] at h
      rw [h.1, h.2]
      rcases lt_or_gt_of_ne hk with h1 | h1
      · simp [hw, h1, not_lt_of_gt h1]
      · simp [hw, h1, not_lt_of_gt h1]
  by_cases hp : p.val &&& 2 ^ s = 0
  · rw [(pair p hp).1, decide_eq_true hp]
  · have hq := partner_and_of_set hs p hp
    have h := (pair (partner 14 s p) hq).2
    rw [partner_partner hs, partner_and_other hs (by omega : s ≠ l + 1)] at h
    rw [h, decide_eq_false hp]

/-- The arrays hold, at each number, the time and the payloads of the entry that `v` puts there. -/
def Holds (T E A : Fin (2 ^ 14) → EReal) (v : Fin (2 ^ 14) → Fin (2 ^ 14)) (a : Arrays Ideal) : Prop :=
  ∀ p, a.tk (cell p) = T (v p) ∧ a.lo (cell p) = E (v p) ∧ a.hi (cell p) = A (v p)

/-- One exchange of the kernel is one stage of the network. -/
theorem holds_step (T E A : Fin (2 ^ 14) → EReal) (hT : Function.Injective T) {s l : ℕ} (hs : s < 14) (hsl : s ≤ l)
    (v : Fin (2 ^ 14) → Fin (2 ^ 14)) (hv : Function.Injective v) (a : Arrays Ideal) (h : Holds T E A v a) :
    Holds T E A (Network.applyBy T (stage 14 s (ahead l)) v) (step k0_pay46 (2 ^ (l + 1), 2 ^ s) a) := by
  intro p
  rw [stage_at hs hsl T hT v hv p]
  have ht : taken (2 ^ (l + 1)) (2 ^ s) k0_pay46 a.tk (cell p)
      = BitVec.ofBool (xor (decide (T (v (partner 14 s p)) < T (v p))) (xor (decide (p.val &&& 2 ^ s = 0)) (decide (p.val &&& 2 ^ (l + 1) ≠ 0)))) := by
    rw [taken_cell hs, (h p).1, (h (partner 14 s p)).1]
  have pick : ∀ (x : S128x128.Idx → EReal) (f : Fin (2 ^ 14) → EReal), (∀ q, x (cell q) = f (v q)) →
      select (taken (2 ^ (l + 1)) (2 ^ s) k0_pay46 a.tk) (across (2 ^ s) k0_pay46 x) x (cell p)
        = f (if xor (decide (T (v (partner 14 s p)) < T (v p))) (xor (decide (p.val &&& 2 ^ s = 0)) (decide (p.val &&& 2 ^ (l + 1) ≠ 0)))
            then v (partner 14 s p) else v p) := by
    intro x f hx
    show Scalar.select (taken _ _ _ _ (cell p)) _ _ = _
    rw [ht, select_ofBool, across_cell hs, hx, hx]
    split <;> rfl
  exact ⟨pick a.tk T fun q => (h q).1, pick a.lo E fun q => (h q).2.1, pick a.hi A fun q => (h q).2.2⟩

/-- The exchanges of the kernel, as pairs of a block's exponent and a distance's exponent. -/
def exponents : List (ℕ × ℕ) := (List.range 14).flatMap fun l => (List.range (l + 1)).reverse.map fun s => (l, s)

/-- The kernel's list of exchanges is the network's, in its order. -/
theorem net_eq : net = exponents.map fun q => (2 ^ (q.1 + 1), 2 ^ q.2) := by decide +kernel

/-- Every exchange's distance is below its block. -/
theorem exponents_lt : ∀ q ∈ exponents, q.2 < 14 ∧ q.2 ≤ q.1 := by decide +kernel

/-- The network is its stages one after another. -/
theorem sortNet_eq : sortNet 14 true = exponents.flatMap fun q => stage 14 q.2 (ahead q.1) := by
  unfold sortNet exponents
  rw [List.flatMap_assoc]
  congr 1
  funext l
  rw [List.flatMap_map]

/-- A list of exchanges is the network of its stages. -/
theorem holds_run (T E A : Fin (2 ^ 14) → EReal) (hT : Function.Injective T) (L : List (ℕ × ℕ)) :
    ∀ (v : Fin (2 ^ 14) → Fin (2 ^ 14)) (a : Arrays Ideal), (∀ q ∈ L, q.2 < 14 ∧ q.2 ≤ q.1) → Function.Injective v → Holds T E A v a →
      Holds T E A (Network.applyBy T (L.flatMap fun q => stage 14 q.2 (ahead q.1)) v)
        (run k0_pay46 (L.map fun q => (2 ^ (q.1 + 1), 2 ^ q.2)) a) := by
  induction L with
  | nil => intro v a _ _ h; exact h
  | cons q L ih =>
    intro v a hL hv h
    rw [List.flatMap_cons, Network.applyBy_append, List.map_cons, run]
    have hq := hL q List.mem_cons_self
    obtain ⟨σ, hσ⟩ := Network.exists_perm_applyBy T (stage 14 q.2 (ahead q.1)) v
    refine ih _ _ (fun r hr => hL r (List.mem_cons_of_mem q hr)) ?_ (holds_step T E A hT hq.1 hq.2 v hv a h)
    rw [hσ]
    exact hv.comp σ.injective

/-- THE NETWORK SORTS: from arrays that hold the entries in their own order it ends with them in an order in which the
    times descend. -/
theorem holds_net (T E A : Fin (2 ^ 14) → EReal) (hT : Function.Injective T) (a : Arrays Ideal) (h : Holds T E A id a) :
    ∃ σ : Equiv.Perm (Fin (2 ^ 14)), Antitone (T ∘ σ) ∧ Holds T E A σ (run k0_pay46 net a) := by
  have e := holds_run T E A hT exponents id a exponents_lt Function.injective_id h
  rw [← net_eq, ← sortNet_eq] at e
  obtain ⟨σ, hσ⟩ := Network.exists_perm_applyBy T (sortNet 14 true) id
  have hk := Network.key_comp_applyBy T (sortNet 14 true) id
  rw [hσ, Function.id_comp] at e hk
  refine ⟨σ, ?_, e⟩
  rw [hk]
  exact sortNet_apply_antitone 14 _

end Cert.KernelIdeal.Stage

end
-- ==== Proof.Combine.lean ====
/-
  What the last grid point stores, of the sorted arrays, in sums over the entries: prefix sums taken by doubling are the sums of the
  entries up to a position, first along the lanes of a row, then over the rows before it.
-/
module

public import proofs.«01_k».proof.Proof.Network
public import Idealize.ShloMosaic.Lib.Pointwise
public import Idealize.ShloMosaic.Lib.WordCmp

@[expose] public section

set_option maxRecDepth 16384

noncomputable section

namespace Cert.KernelIdeal.Stage

open Idealize.ShloMosaic Idealize.ShloMosaic.TcCoe Idealize.SL.Sem
open Cert.KernelIdeal Cert.KernelIdeal.Gen

/-- The sum of the last `n` entries up to position `l`. -/
def win (n : ℕ) (a : Fin 128 → EReal) (l : ℕ) : EReal := ∑ q : Fin 128, if q.val ≤ l ∧ l < q.val + n then a q else 0

/-- The last entry alone. -/
theorem win_one (a : Fin 128 → EReal) (l : Fin 128) : win 1 a l.val = a l := by
  unfold win
  rw [Finset.sum_eq_single l]
  · simp
  · intro q _ hq
    rw [if_neg]
    intro h
    exact hq (Fin.ext (by omega))
  · intro h; exact absurd (Finset.mem_univ _) h

/-- Adding the window that ends `n` earlier doubles the window. -/
theorem win_double (n : ℕ) (a : Fin 128 → EReal) (l : ℕ) :
    win n a l + (if n ≤ l then win n a (l - n) else 0) = win (n + n) a l := by
  have h : (if n ≤ l then win n a (l - n) else 0) = ∑ q : Fin 128, if q.val + n ≤ l ∧ l < q.val + n + n then a q else 0 := by
    unfold win
    split
    · refine Finset.sum_congr rfl fun q _ => if_congr ?_ rfl rfl
      omega
    · exact (Finset.sum_eq_zero fun q _ => if_neg (by omega)).symm
  rw [h]
  unfold win
  rw [← Finset.sum_add_distrib]
  refine Finset.sum_congr rfl fun q _ => ?_
  by_cases h1 : q.val ≤ l ∧ l < q.val + n
  · rw [if_pos h1, if_neg (by omega), if_pos (by omega), add_zero]
  · rw [if_neg h1, zero_add]
    exact if_congr (by omega) rfl rfl

/-- A window of the whole row is the sum of the entries up to the position. -/
theorem win_full (a : Fin 128 → EReal) (l : ℕ) (hl : l < 128) : win 128 a l = ∑ q : Fin 128, if q.val ≤ l then a q else 0 :=
  Finset.sum_congr rfl fun q _ => if_congr (by omega) rfl rfl

/-- The window of the sequence that is delayed by one is the window that leaves the last entry out. -/
theorem win_delay (a : Fin 128 → EReal) (r : ℕ) (hr : r < 128) :
    win 128 (fun q => if h : 1 ≤ q.val then a ⟨q.val - 1, by omega⟩ else 0) r = ∑ q : Fin 128, if q.val < r then a q else 0 := by
  rw [win_full _ _ hr]
  have e : ∀ f : Fin (127 + 1) → EReal, ∑ q, f q = f 0 + ∑ q : Fin 127, f q.succ := fun f => Fin.sum_univ_succ f
  have e' : ∀ f : Fin (127 + 1) → EReal, ∑ q, f q = ∑ q : Fin 127, f q.castSucc + f (Fin.last 127) := fun f => Fin.sum_univ_castSucc f
  rw [e, e']
  rw [show (if (Fin.last 127).val < r then a (Fin.last 127) else 0) = 0 from if_neg (by simp; omega)]
  rw [add_zero]
  refine (congrArg₂ (· + ·) (by simp) rfl).trans ((zero_add _).trans ?_)
  refine Finset.sum_congr rfl fun q _ => ?_
  have hq : (q.succ : Fin 128).val = q.val + 1 := rfl
  have hq' : (q.castSucc : Fin 128).val = q.val := rfl
  refine if_congr (by omega) ?_ rfl
  rw [dif_pos (by omega)]
  exact congrArg a (Fin.ext (by simp))

/-- One doubling step along the lanes. -/
def laneStep (lane : IVec S128x128 32) (n : BitVec 32) (x : FVec Ideal S128x128 .f32) : FVec Ideal S128x128 .f32 :=
  addf x (select (cmpi .sge lane (broadcast S128x128 n)) (dynamicRotate 1 n none x rotates_S128x128_d1)
    (broadcast S128x128 (Scalar.ofBits .f32 0x00000000#32)))

/-- One doubling step along the rows. -/
def rowStep (row : IVec S128x1 32) (n : BitVec 32) (x : FVec Ideal S128x1 .f32) : FVec Ideal S128x1 .f32 :=
  addf x (select (cmpi .sge row (broadcast S128x1 n)) (dynamicRotate 0 n none x rotates_S128x1_d0)
    (broadcast S128x1 (Scalar.ofBits .f32 0x00000000#32)))

/-- The lane numbers. -/
abbrev lanes : IVec S128x128 32 := iota .tc S128x128 32 [1] iota_S128x128_d1_w32

/-- The row numbers. -/
abbrev rows : IVec S128x1 32 := iota .tc S128x1 32 [0] iota_S128x1_d0_w32

/-- A step along the lanes at a position. -/
theorem laneStep_at (n : ℕ) (h0 : 0 < n) (hn : n < 128) (x : FVec Ideal S128x128 .f32) (r l : Fin 128) :
    laneStep lanes (BitVec.ofNat 32 n) x (ix2 r l)
      = x (ix2 r l) + if h : n ≤ l.val then x (ix2 r ⟨l.val - n, by omega⟩) else 0 := by
  unfold laneStep lanes
  pointwise
  refine Ideal.add_congr rfl ?_
  have hm : (BitVec.ofNat 32 n).toNat % 128 = n := by rw [BitVec.toNat_ofNat]; omega
  have hl := l.isLt
  by_cases h : n ≤ l.val
  · rw [dif_pos h]
    rw [show IntOp.cmpi .sge (BitVec.ofNat 32 l.val) (BitVec.ofNat 32 n) = 1#1 by
      simp (disch := omega) only [hlo_ix]; simp [h]]
    exact congrArg x ((ix2_inj ..).2 ⟨rfl, Fin.ext (by simp only [hm]; omega)⟩)
  · rw [dif_neg h]
    rw [show IntOp.cmpi .sge (BitVec.ofNat 32 l.val) (BitVec.ofNat 32 n) = 0#1 by
      simp (disch := omega) only [hlo_ix]; simp [h]]
    rfl

/-- A step along the rows at a position. -/
theorem rowStep_at (n : ℕ) (h0 : 0 < n) (hn : n < 128) (x : FVec Ideal S128x1 .f32) (r : Fin 128) :
    rowStep rows (BitVec.ofNat 32 n) x (ix2 r (0 : Fin 1))
      = x (ix2 r (0 : Fin 1)) + if h : n ≤ r.val then x (ix2 ⟨r.val - n, by omega⟩ (0 : Fin 1)) else 0 := by
  unfold rowStep rows
  pointwise
  refine Ideal.add_congr rfl ?_
  have hm : (BitVec.ofNat 32 n).toNat % 128 = n := by rw [BitVec.toNat_ofNat]; omega
  have hl := r.isLt
  by_cases h : n ≤ r.val
  · rw [dif_pos h]
    rw [show IntOp.cmpi .sge (BitVec.ofNat 32 r.val) (BitVec.ofNat 32 n) = 1#1 by
      simp (disch := omega) only [hlo_ix]; simp [h]]
    exact congrArg x ((ix2_inj ..).2 ⟨Fin.ext (by simp only [hm]; omega), rfl⟩)
  · rw [dif_neg h]
    rw [show IntOp.cmpi .sge (BitVec.ofNat 32 r.val) (BitVec.ofNat 32 n) = 0#1 by
      simp (disch := omega) only [hlo_ix]; simp [h]]
    rfl

/-- A step along the lanes doubles the windows. -/
theorem laneStep_win (n : ℕ) (h0 : 0 < n) (hn : n < 128) (a : Fin 128 → Fin 128 → EReal) (x : FVec Ideal S128x128 .f32)
    (hx : ∀ r l : Fin 128, x (ix2 r l) = win n (a r) l.val) (r l : Fin 128) :
    laneStep lanes (BitVec.ofNat 32 n) x (ix2 r l) = win (n + n) (a r) l.val := by
  rw [laneStep_at n h0 hn, ← win_double, hx]
  refine congrArg _ ?_
  split
  · rw [hx]
  · rfl

/-- A step along the rows doubles the windows. -/
theorem rowStep_win (n : ℕ) (h0 : 0 < n) (hn : n < 128) (a : Fin 128 → EReal) (x : FVec Ideal S128x1 .f32)
    (hx : ∀ r : Fin 128, x (ix2 r (0 : Fin 1)) = win n a r.val) (r : Fin 128) :
    rowStep rows (BitVec.ofNat 32 n) x (ix2 r (0 : Fin 1)) = win (n + n) a r.val := by
  rw [rowStep_at n h0 hn, ← win_double, hx]
  refine congrArg _ ?_
  split
  · rw [hx]
  · rfl

/-- The seven steps along the lanes. -/
def laneSums (x : FVec Ideal S128x128 .f32) : FVec Ideal S128x128 .f32 :=
  laneStep lanes 64#32 (laneStep lanes 32#32 (laneStep lanes 16#32 (laneStep lanes 8#32 (laneStep lanes 4#32 (laneStep lanes 2#32 (laneStep lanes 1#32 x))))))

/-- The seven steps along the rows. -/
def rowSums (x : FVec Ideal S128x1 .f32) : FVec Ideal S128x1 .f32 :=
  rowStep rows 64#32 (rowStep rows 32#32 (rowStep rows 16#32 (rowStep rows 8#32 (rowStep rows 4#32 (rowStep rows 2#32 (rowStep rows 1#32 x))))))

/-- The steps along the lanes sum a row up to the position. -/
theorem laneSums_at (x : FVec Ideal S128x128 .f32) (r l : Fin 128) : laneSums x (ix2 r l) = win 128 (fun q => x (ix2 r q)) l.val :=
  laneStep_win 64 (by decide) (by decide) (fun r q => x (ix2 r q)) _
    (laneStep_win 32 (by decide) (by decide) _ _ (laneStep_win 16 (by decide) (by decide) _ _ (laneStep_win 8 (by decide) (by decide) _ _
      (laneStep_win 4 (by decide) (by decide) _ _ (laneStep_win 2 (by decide) (by decide) _ _
        (laneStep_win 1 (by decide) (by decide) _ _ fun r l => (win_one (fun q => x (ix2 r q)) l).symm)))))) r l

/-- The steps along the rows sum a column up to the position. -/
theorem rowSums_at (x : FVec Ideal S128x1 .f32) (r : Fin 128) : rowSums x (ix2 r (0 : Fin 1)) = win 128 (fun q => x (ix2 q (0 : Fin 1))) r.val :=
  rowStep_win 64 (by decide) (by decide) (fun q => x (ix2 q (0 : Fin 1))) _
    (rowStep_win 32 (by decide) (by decide) _ _ (rowStep_win 16 (by decide) (by decide) _ _ (rowStep_win 8 (by decide) (by decide) _ _
      (rowStep_win 4 (by decide) (by decide) _ _ (rowStep_win 2 (by decide) (by decide) _ _
        (rowStep_win 1 (by decide) (by decide) _ _ fun r => (win_one (fun q => x (ix2 q (0 : Fin 1))) r).symm)))))) r

/-- The rows' totals, each one row later. -/
def delayed (x : FVec Ideal S128x128 .f32) : FVec Ideal S128x1 .f32 :=
  select (cmpi .sge rows (broadcast S128x1 1#32))
    (dynamicRotate 0 1#32 none (extractStridedSlice S128x1 ![0, 127] x slices_S128x128_o0_127_S128x1) rotates_S128x1_d0)
    (broadcast S128x1 (Scalar.ofBits .f32 0x00000000#32))

/-- The delayed totals at a row. -/
theorem delayed_at (x : FVec Ideal S128x128 .f32) (r : Fin 128) :
    delayed x (ix2 r (0 : Fin 1)) = if h : 1 ≤ r.val then x (ix2 (⟨r.val - 1, by omega⟩ : Fin 128) (127 : Fin 128)) else 0 := by
  unfold delayed rows
  pointwise
  have hl := r.isLt
  by_cases h : 1 ≤ r.val
  · rw [dif_pos h]
    rw [show IntOp.cmpi .sge (BitVec.ofNat 32 r.val) 1#32 = 1#1 by
      simp (disch := omega) only [hlo_ix]; simp [h]]
    exact congrArg x ((ix2_inj ..).2 ⟨Fin.ext (by simp; omega), rfl⟩)
  · rw [dif_neg h]
    rw [show IntOp.cmpi .sge (BitVec.ofNat 32 r.val) 1#32 = 0#1 by
      simp (disch := omega) only [hlo_ix]; simp [h]]
    rfl

/-- The prefix sums of the whole array. -/
def prefixSums (x : FVec Ideal S128x128 .f32) : FVec Ideal S128x128 .f32 :=
  addf (laneSums x) (broadcastTo S128x128 (rowSums (delayed (laneSums x))) broadcasts_S128x1_S128x128)

/-- A prefix sum: the row up to the lane, and the rows before. -/
theorem prefixSums_at (x : FVec Ideal S128x128 .f32) (r l : Fin 128) :
    prefixSums x (ix2 r l) = (∑ q : Fin 128, if q.val ≤ l.val then x (ix2 r q) else 0)
      + ∑ r' : Fin 128, if r'.val < r.val then ∑ q : Fin 128, x (ix2 r' q) else 0 := by
  unfold prefixSums
  pointwise
  rw [laneSums_at, rowSums_at, win_full _ _ l.isLt]
  refine Ideal.add_congr rfl ?_
  have e : (fun q : Fin 128 => delayed (laneSums x) (ix2 q (0 : Fin 1)))
      = fun q => if h : 1 ≤ q.val then (fun r' : Fin 128 => ∑ q' : Fin 128, x (ix2 r' q')) ⟨q.val - 1, by omega⟩ else 0 := by
    funext q
    rw [delayed_at]
    split
    · rw [laneSums_at]
      show win 128 _ 127 = _
      rw [win_full _ _ (by decide)]
      exact Finset.sum_congr rfl fun q _ => if_pos (by omega)
    · rfl
  rw [e]
  exact win_delay (fun r' : Fin 128 => ∑ q' : Fin 128, x (ix2 r' q')) _ r.isLt

/-- The element at a row and a lane has the number `row * 128 + lane`. -/
theorem cell_row_lane (r l : Fin 128) (h : r.val * 128 + l.val < 2 ^ 14) : cell ⟨r.val * 128 + l.val, h⟩ = ix2 r l := by
  have := l.isLt
  exact (ix2_inj ..).2 ⟨Fin.ext (by simp; omega), Fin.ext (by show (r.val * 128 + l.val) % 128 = l.val; omega)⟩

/-- A sum over the array is the sum over the numbers. -/
theorem sum_cell (f : S128x128.Idx → EReal) : ∑ r : Fin 128, ∑ l : Fin 128, f (ix2 r l) = ∑ p, f (cell p) := by
  rw [Fin.sum_univ_tiles 128 128 (by norm_num) fun p : Fin (2 ^ 14) => f (cell p)]
  exact Finset.sum_congr rfl fun r _ => Finset.sum_congr rfl fun l _ => congrArg f (cell_row_lane r l _).symm

/-- A prefix sum is the sum over the numbers up to the position's. -/
theorem prefixSums_cell (x : FVec Ideal S128x128 .f32) (p : Fin (2 ^ 14)) :
    prefixSums x (cell p) = ∑ q : Fin (2 ^ 14), if q.val ≤ p.val then x (cell q) else 0 := by
  rw [Fin.sum_univ_tiles 128 128 (by norm_num) fun q : Fin (2 ^ 14) => if q.val ≤ p.val then x (cell q) else 0]
  refine (prefixSums_at x _ _).trans ?_
  have hp := p.isLt
  have e : ∀ r : Fin 128, (∑ l : Fin 128, if r.val * 128 + l.val ≤ p.val then x (ix2 r l) else 0)
      = (if r.val = p.val / 128 then ∑ q : Fin 128, if q.val ≤ p.val % 128 then x (ix2 r q) else 0 else 0)
        + if r.val < p.val / 128 then ∑ q : Fin 128, x (ix2 r q) else 0 := by
    intro r
    rcases lt_trichotomy r.val (p.val / 128) with h | h | h
    · rw [if_neg (by omega), if_pos h, zero_add]
      exact Finset.sum_congr rfl fun l _ => if_pos (by have := l.isLt; omega)
    · rw [if_pos h, if_neg (by omega), add_zero]
      exact Finset.sum_congr rfl fun l _ => if_congr (by have := l.isLt; omega) rfl rfl
    · rw [if_neg (by omega), if_neg (by omega), add_zero]
      exact Finset.sum_eq_zero fun l _ => if_neg (by have := l.isLt; omega)
  refine Eq.trans ?_ (Finset.sum_congr rfl fun r _ => ((e r).symm.trans (Finset.sum_congr rfl fun l _ => by rw [cell_row_lane])))
  rw [Finset.sum_add_distrib]
  refine congrArg₂ (· + ·) (Eq.symm ?_) rfl
  rw [Finset.sum_eq_single (⟨p.val / 128, by omega⟩ : Fin 128)]
  · rw [if_pos rfl]
  · intro r _ hr
    exact if_neg fun h => hr (Fin.ext h)
  · intro h; exact absurd (Finset.mem_univ _) h

/-- A maximum is the same over any renaming of what it runs over. -/
theorem fold_max_equiv {α β : Type} [Fintype α] [Fintype β] (g : α ≃ β) (b : EReal) (f : β → EReal) :
    Finset.univ.fold max b (fun a => f (g a)) = Finset.univ.fold max b f := by
  rw [← Finset.map_univ_equiv g, Finset.fold_map]
  rfl

/-- The greatest of the entries, and of the word of −∞. -/
def top (H : Fin (2 ^ 14) → EReal) : EReal := Finset.univ.fold max (Ideal.ofBits .f32 0xFF800000#32) H

/-- The greatest element of the array is the greatest over the numbers. -/
theorem fold_cell (h : S128x128.Idx → EReal) (b : EReal) :
    Finset.univ.fold max b (fun x : Fin 128 × Fin 128 => h (ix2 x.1 x.2)) = Finset.univ.fold max b fun p => h (cell p) :=
  (fold_max_equiv (finProdFinEquiv (m := 128) (n := 128)).symm b fun x : Fin 128 × Fin 128 => h (ix2 x.1 x.2)).symm

/-- The loss that the kernel combines, of the events and the scores in their own order and the events and the exponentials in
    the sorted order. -/
def lossOf (E H Es As : Fin (2 ^ 14) → EReal) : EReal :=
  0 - Ideal.div ((∑ p, E p * H p)
    - ∑ p, Es p * (Ideal.log ((∑ q : Fin (2 ^ 14), if q.val ≤ p.val then As q else 0) + Ideal.ofBits .f32 0x33D6BF95#32) + top H)) (∑ p, E p)

/-- The last part of the body, of the array of prefix sums. -/
theorem combine_at (x : FVec Ideal S128x128 .f32) (v14 v22 v26 : Ideal .f32) (v2254 : FVec Ideal S128x128 .f32) (j : S1x1.Idx) :
    k0_pay1 v14 v22 v26 v2254 (k0_pay674 (k0_pay672 lanes x) (k0_pay673 lanes) 64#32) rows
        (k0_pay675 (k0_pay672 lanes x) (k0_pay673 lanes) 64#32) j
      = 0 - Ideal.div (v22 - ∑ r : Fin 128, ∑ l : Fin 128,
          v2254 (ix2 r l) * (Ideal.log (prefixSums x (ix2 r l) + Ideal.ofBits .f32 0x33D6BF95#32) + v14)) v26 := by
  have e : addf (k0_pay674 (k0_pay672 lanes x) (k0_pay673 lanes) 64#32)
      (broadcastTo S128x128 (rowStep rows 64#32 (rowStep rows 32#32 (k0_pay675 (k0_pay672 lanes x) (k0_pay673 lanes) 64#32)))
        broadcasts_S128x1_S128x128) = prefixSums x := rfl
  rw [← e]
  unfold rowStep
  pointwise [k0_pay1]

/-- What the last point stores, of arrays read at the numbers. -/
theorem stored_at (t e h : Vec Ideal S128x128 .f32) (s : Arrays Ideal) (j : S1x1.Idx) :
    stored t e h s j = lossOf (fun p => e (cell p)) (fun p => h (cell p)) (fun p => s.lo (cell p)) (fun p => s.hi (cell p)) := by
  unfold stored
  rw [combine_at]
  pointwise [k0_pay41, k0_pay42, k0_pay43, k0_pay40]
  unfold lossOf top
  rw [fold_cell, sum_cell fun i => e i, sum_cell fun i => e i * h i]
  refine congrArg (fun z => 0 - Ideal.div (_ - z) _) ?_
  refine (sum_cell fun i => s.lo i * (Ideal.log (prefixSums (extf .f32 s.hi bitsLt_bf16_f32) i + Ideal.ofBits .f32 0x33D6BF95#32)
    + Finset.univ.fold max (Ideal.ofBits .f32 0xFF800000#32) fun p => h (cell p))).trans ?_
  refine Finset.sum_congr rfl fun p _ => ?_
  rw [prefixSums_cell]
  rfl

/-- THE LAST POINT: of distinct times, it stores the loss of the entries in an order in which the times descend. -/
theorem lastPoint_value (t e h : Vec Ideal S128x128 .f32) (T E H : Fin (2 ^ 14) → EReal) (hT : Function.Injective T)
    (ht : ∀ p, t (cell p) = T p) (he : ∀ p, e (cell p) = E p) (hh : ∀ p, h (cell p) = H p) (j : S1x1.Idx) :
    ∃ σ : Equiv.Perm (Fin (2 ^ 14)), Antitone (T ∘ σ)
      ∧ stored t e h (run k0_pay46 net (start t e h)) j = lossOf E H (fun p => E (σ p)) fun p => Ideal.exp (H (σ p) - top H) := by
  have hs : Holds T E (fun p => Ideal.exp (H p - top H)) id (start t e h) := by
    intro p
    refine ⟨?_, ?_, ?_⟩
    · refine Eq.trans ?_ (ht p)
      unfold start cell
      pointwise [k0_pay39]
    · refine Eq.trans ?_ (he p)
      unfold start cell
      pointwise [k0_pay45, k0_pay40]
    · show k0_pay44 h (cell p) = _
      have e : k0_pay44 h (cell p) = Ideal.exp (h (cell p) - Finset.univ.fold max (Ideal.ofBits .f32 0xFF800000#32)
          fun x : Fin 128 × Fin 128 => h (ix2 x.1 x.2)) := by
        unfold cell
        pointwise [k0_pay44, k0_pay41]
      rw [e, fold_cell, hh, show (fun p => h (cell p)) = H from funext hh]
      rfl
  obtain ⟨σ, hσ, hv⟩ := holds_net T E _ hT _ hs
  refine ⟨σ, hσ, ?_⟩
  rw [stored_at, show (fun p => e (cell p)) = E from funext he, show (fun p => h (cell p)) = H from funext hh]
  rw [show (fun p => (run k0_pay46 net (start t e h)).lo (cell p)) = fun p => E (σ p) from funext fun p => (hv p).2.1]
  rw [show (fun p => (run k0_pay46 net (start t e h)).hi (cell p)) = fun p => Ideal.exp (H (σ p) - top H) from funext fun p => (hv p).2.2]

end Cert.KernelIdeal.Stage

end
-- ==== Proof.Blocks.lean ====
/-
  The blocks that the last point and the earlier points read, as entries of the arguments.
-/
module

public import proofs.«01_k».proof.Proof.KRun
public import proofs.«01_k».proof.Proof.Combine

@[expose] public section

set_option maxRecDepth 16384

noncomputable section

namespace Cert.KernelIdeal.Rows

open Idealize.ShloMosaic Idealize.ShloMosaic.TcCoe Idealize.SL.Sem
open Cert.KernelIdeal Cert.KernelIdeal.Gen Cert.KernelIdeal.Stage

variable (m : (ℓ : Loc nD τ sig) → Buf (Elt Ideal) ℓ)

/-- The first argument. -/
abbrev rows (c : Dev nD) : FVec Ideal S16384x512 .f32 := m ((c : Thread nD τ).loc main_arg0)
/-- The second argument. -/
abbrev labels (c : Dev nD) : FVec Ideal S16384x2 .f32 := m ((c : Thread nD τ).loc main_arg1)
/-- The third argument. -/
abbrev weights (c : Dev nD) : FVec Ideal S512x1 .f32 := m ((c : Thread nD τ).loc main_arg2)

/-- The first window's block at an earlier point is the point's, the other windows have one block. -/
theorem index_val : ∀ t : Fin cfg0.N, win0_0.index t = ![min t.val 3, 0] ∧ win0_1.index t = ![0, 0]
    ∧ win0_2.index t = ![0, 0] ∧ win0_3.index t = ![0, 0] :=
  (by decide +kernel : ∀ t : Fin grid0.N, _)

/-- A row of the first window's block is a row of the first argument. -/
theorem rows_block (c : Dev nD) (t : Fin cfg0.N) (ht : t.val < 4) (r : Fin 4096) (k : Fin 512) :
    (iblk m c 0 t : FVec Ideal S4096x512 .f32) (ix2 r k)
      = rows m c (ix2 (⟨4096 * t.val + r.val, by omega⟩ : Fin 16384) k) := by
  have h3 : min t.val 3 = t.val := by omega
  blk_ext [iblk, V, index_val t, h3]

/-- The weights, as the windows find them: the third argument as a row. -/
theorem weights_entry (c : Dev nD) : (V m c main_v6 : FVec Ideal S1x512 .f32)
    = shapeCast S1x512 (weights m c) shapeCasts_S512x1_S1x512 := by
  simp only [V, V0, hostOps0, List.flatten_cons, List.flatten_nil, List.append_nil, List.cons_append, List.nil_append, StableHlo.after_cons, StableHlo.after_nil]
  after_results_simp
  rfl

/-- The times, as the windows find them: the first column of the second argument, 128 to a row. -/
theorem times_entry (c : Dev nD) : (V m c main_v2 : FVec Ideal S128x128 .f32)
    = shapeCast S128x128 (shapeCast S16384 (extractStridedSlice S16384x1 ![0, 0] (labels m c)
        slices_S16384x2_S16384x1_0_0) shapeCasts_S16384x1_S16384) shapeCasts_S16384_S128x128 := by
  simp only [V, V0, hostOps0, List.flatten_cons, List.flatten_nil, List.append_nil, List.cons_append, List.nil_append, StableHlo.after_cons, StableHlo.after_nil]
  after_results_simp
  rfl

/-- The events, as the windows find them: the second column of the second argument, 128 to a row. -/
theorem events_entry (c : Dev nD) : (V m c main_v5 : FVec Ideal S128x128 .f32)
    = shapeCast S128x128 (shapeCast S16384 (extractStridedSlice S16384x1 ![0, 1] (labels m c)
        slices_S16384x2_S16384x1_0_1) shapeCasts_S16384x1_S16384) shapeCasts_S16384_S128x128 := by
  simp only [V, V0, hostOps0, List.flatten_cons, List.flatten_nil, List.append_nil, List.cons_append, List.nil_append, StableHlo.after_cons, StableHlo.after_nil]
  after_results_simp
  rfl

/-- The one block of the weights' window is the whole row. -/
theorem weights_whole (c : Dev nD) (t : Fin cfg0.N) : (iblk m c 1 t : FVec Ideal S1x512 .f32) = V m c main_v6 := by
  blk_ext! [iblk, index_val t]

/-- The one block of the times' window is the whole array. -/
theorem times_whole (c : Dev nD) (t : Fin cfg0.N) : (iblk m c 2 t : FVec Ideal S128x128 .f32) = V m c main_v2 := by
  blk_ext! [iblk, index_val t]

/-- The one block of the events' window is the whole array. -/
theorem events_whole (c : Dev nD) (t : Fin cfg0.N) : (iblk m c 3 t : FVec Ideal S128x128 .f32) = V m c main_v5 := by
  blk_ext! [iblk, index_val t]

/-- A column of two, laid out in rows of 128, has entry `p` at cell `p`. -/
theorem column_cell (y : FVec Ideal S16384x2 .f32) (p : Fin (2 ^ 14)) :
    shapeCast S128x128 (shapeCast S16384 (extractStridedSlice S16384x1 ![0, 0] y
        slices_S16384x2_S16384x1_0_0) shapeCasts_S16384x1_S16384) shapeCasts_S16384_S128x128 (cell p)
      = y (ix2 p (0 : Fin 2))
    ∧ shapeCast S128x128 (shapeCast S16384 (extractStridedSlice S16384x1 ![0, 1] y
        slices_S16384x2_S16384x1_0_1) shapeCasts_S16384x1_S16384) shapeCasts_S16384_S128x128 (cell p)
      = y (ix2 p (1 : Fin 2)) := by
  have hp := p.isLt
  unfold cell
  constructor
  · pointwise
    blk_ext
  · pointwise
    blk_ext

/-- A column of weights as a row has the same entries. -/
theorem row_of_column (w : FVec Ideal S512x1 .f32) (k : Fin 512) :
    shapeCast S1x512 w shapeCasts_S512x1_S1x512 (ix2 (0 : Fin 1) k) = w (ix2 k (0 : Fin 1)) := by
  pointwise

/-- Piece `r` of the product of a block of rows with the row of weights has at `l` the product of row `128 * r + l`. -/
theorem piece_apply (w : FVec Ideal S1x512 .f32) (x : FVec Ideal S4096x512 .f32) (r : Fin 32) (l : Fin 128) :
    piece (k0_pay2 w x) r (ix2 (0 : Fin 1) l)
      = ∑ k : Fin 512, x (ix2 (⟨128 * r.val + l.val, by omega⟩ : Fin 4096) k) * w (ix2 (0 : Fin 1) k) := by
  unfold piece
  pointwise [k0_pay2]
  exact Finset.sum_congr rfl fun k _ => mul_comm _ _

/-- The block of times at a point, at cell `p`: the time of entry `p`. -/
theorem times_cell (c : Dev nD) (t : Fin cfg0.N) (p : Fin (2 ^ 14)) : (iblk m c 2 t : FVec Ideal S128x128 .f32) (cell p)
    = labels m c (ix2 p (0 : Fin 2)) :=
  (congrFun ((times_whole m c t).trans (times_entry m c)) (cell p)).trans (column_cell _ p).1

/-- The block of events at a point, at cell `p`: the event of entry `p`. -/
theorem events_cell (c : Dev nD) (t : Fin cfg0.N) (p : Fin (2 ^ 14)) : (iblk m c 3 t : FVec Ideal S128x128 .f32) (cell p)
    = labels m c (ix2 p (1 : Fin 2)) :=
  (congrFun ((events_whole m c t).trans (events_entry m c)) (cell p)).trans (column_cell _ p).2

/-- The weights' block at a point has the entries of the third argument. -/
theorem weights_at (c : Dev nD) (t : Fin cfg0.N) (k : Fin 512) : (iblk m c 1 t : FVec Ideal S1x512 .f32) (ix2 (0 : Fin 1) k)
    = weights m c (ix2 k (0 : Fin 1)) :=
  (congrFun ((weights_whole m c t).trans (weights_entry m c)) _).trans (row_of_column _ k)

/-- The gathered products at cell `p`: the product of row `p` of the first argument with the weights. -/
theorem scores_cell (c : Dev nD) (p : Fin (2 ^ 14)) : scores m c (cell p)
    = ∑ k : Fin 512, rows m c (ix2 p k)
        * weights m c (ix2 k (0 : Fin 1)) := by
  have hp := p.isLt
  have ht : (pointOf (cell p)).val < 4 := show p.val / 128 / 32 < 4 by omega
  refine (piece_apply _ _ _ _).trans (Finset.sum_congr rfl fun k _ => ?_)
  rw [weights_at]
  refine congrArg (· * _) ((rows_block m c _ ht _ k).trans ?_)
  refine congrArg (fun r => rows m c (ix2 r k)) (Fin.ext ?_)
  show 4096 * (p.val / 128 / 32) + (128 * (p.val / 128 % 32) + p.val % 128) = p.val
  omega

end Cert.KernelIdeal.Rows

end
-- ==== Proof.PreFacts.lean ====
/-
  The side conditions that the precondition's operations take, all of them closed statements about literal shapes.
-/
module

public import proofs.«01_k».proof.Pre_distinct_times_finite_factors

@[expose] public section

namespace Cert.Pre_distinct_times_finite_factors

open Idealize.ShloMosaic

/-- The precondition's side conditions hold. -/
instance facts : Facts where
  slices_S16384x2_S16384x1_0_0 := by decide
  shapeCasts_S16384x1_S16384 := by decide
  bcast_S16384_S16384x1_0 := by decide
  bcast_S16384_S1x16384_1 := by decide
  bcast_S16384x1_S16384x16384_0_1 := by decide
  bcast_S1x16384_S16384x16384_0_1 := by decide
  bcast_S_S16384x512 := by decide
  bcast_S_S512x1 := by decide

end Cert.Pre_distinct_times_finite_factors
-- ==== Proof.Decode.lean ====
/-
  What the precondition says of the arguments: the times differ pairwise, and the rows and the weights are real.
-/
module

public import proofs.«01_k».proof.Proof.PreFacts
public import Idealize.ShloMosaic.Lib.Pointwise
public import Idealize.ShloMosaic.Lib.WordCmp

@[expose] public section

set_option maxRecDepth 16384

noncomputable section

namespace Cert.Pre_distinct_times_finite_factors

open Idealize.ShloMosaic

variable (x : FVec Ideal S16384x512 .f32) (y : FVec Ideal S16384x2 .f32) (w : FVec Ideal S512x1 .f32)

/-- An extended real whose absolute value is below the greatest is a real number. -/
theorem real_of_abs_lt (a : EReal) (h : FloatOps.cmpf .olt (FloatOps.hostAbsf (F := Ideal) (φ := .f32) a)
    (FloatOps.ofBits (F := Ideal) .f32 0x7F800000#32) = 1#1) : ∃ r : ℝ, a = r := by
  have e : Ideal.ofBits .f32 0x7F800000#32 = ⊤ := by simp [Ideal.ofBits, Ideal.ieee]
  replace h : Ideal.cmp .olt (max a (-a)) (Ideal.ofBits .f32 0x7F800000#32) = 1#1 := h
  rw [e] at h
  induction a with
  | bot => simp [Ideal.cmp] at h
  | top => simp [Ideal.cmp] at h
  | coe r => exact ⟨r, rfl⟩

/-- The first component: entry `(p, q)` is set where the times of `p` and `q` differ or `p = q`. -/
theorem times_differ (h : (fn x y w).1 = fun _ => 1#1) : Function.Injective fun p : Fin 16384 => y (ix2 p (0 : Fin 2)) := by
  intro p q hpq
  by_contra hne
  have e := congrFun h (ix2 p q)
  revert e
  pointwise [fn]
  have hw : BitVec.ofNat 32 p.val ≠ BitVec.ofNat 32 q.val := fun e => hne (Fin.ext (by
    have := congrArg BitVec.toNat e
    simp only [BitVec.toNat_ofNat] at this
    omega))
  simp only [show y (ix2 p (0 : Fin 2)) = y (ix2 q (0 : Fin 2)) from hpq, IntOp.ori, IntOp.cmpi]
  simp [beq_false_of_ne hw]

/-- The second component: the rows are real. -/
theorem rows_real (h : (fn x y w).2.1 = fun _ => 1#1) (i) : ∃ r : ℝ, x i = r :=
  real_of_abs_lt _ (congrFun h i)

/-- The third component: the weights are real. -/
theorem weights_real (h : (fn x y w).2.2 = fun _ => 1#1) (i) : ∃ r : ℝ, w i = r :=
  real_of_abs_lt _ (congrFun h i)

end Cert.Pre_distinct_times_finite_factors

end
-- ==== Proof.RefTerm.lean ====
/-
  What the reference computes: the order that its sort finds, the entries taken in that order, and the loss of them.
-/
module

public import proofs.«01_k».proof.Proof.Gen.ReferenceIdeal.Run
public import Idealize.ShloMosaic.Lib.Pointwise
public import Idealize.ShloMosaic.Lib.WordCmp
public import Idealize.ShloMosaic.Lib.SortFacts
public import Idealize.ShloMosaic.Lib.ReduceAll
public import Idealize.ShloMosaic.Lib.Routing.OpsSet

@[expose] public section

set_option maxRecDepth 16384

noncomputable section

namespace Cert.ReferenceIdeal.Term

open Idealize.ShloMosaic Idealize.ShloMosaic.TcCoe Idealize.SL.Sem
open Cert.ReferenceIdeal Cert.ReferenceIdeal.Gen

/-- The times: the first column of the labels. -/
def times (y : FVec Ideal S16384x2 .f32) : FVec Ideal S16384 .f32 :=
  shapeCast _ (extractStridedSlice S16384x1 ![0, 0] y slices_S16384x2_S16384x1_0_0) shapeCasts_S16384x1_S16384

/-- The events: the second column of the labels. -/
def events (y : FVec Ideal S16384x2 .f32) : FVec Ideal S16384 .f32 :=
  shapeCast _ (extractStridedSlice S16384x1 ![0, 1] y slices_S16384x2_S16384x1_0_1) shapeCasts_S16384x1_S16384

/-- The scores: the product with the weights. -/
def scores (x : FVec Ideal S16384x512 .f32) (w : FVec Ideal S512x1 .f32) : FVec Ideal S16384 .f32 :=
  shapeCast _ (Host.dotGeneral dot_S16384x512_S512x1_S16384x1_1_0_0_1_n_n none x w) shapeCasts_S16384x1_S16384

/-- The numbers of the entries in the order of the sort. -/
def ids (t : FVec Ideal S16384 .f32) : IVec S16384 32 :=
  (Host.sort2 S16384 0 (comparator_f32_i32_d0 (F := Ideal)) (Host.negf t) (iotaInDim S16384 32 0)).2

/-- The column of numbers to take at, a negative one counted from the end. -/
def column (i : IVec S16384 32) : IVec S16384x1 32 :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 16384#32))) i)

/-- Which of the numbers lie inside. -/
def inside (i : IVec S16384 32) : IVec S16384x1 1 :=
  andi (cmpi .sge (column i) (broadcastInDim S16384x1 ![] bcast_S_S16384x1 (constantI S_ 32 0#32)))
    (cmpi .sle (column i) (broadcastInDim S16384x1 ![0, 1] bcast_S1x1_S16384x1_0_1 (broadcastInDim S1x1 ![1] bcast_S1_S1x1_1 (constantI S1 32 16383#32))))

/-- The entries of an array at the numbers. -/
def take (a : FVec Ideal S16384 .f32) (i : IVec S16384 32) : FVec Ideal S16384 .f32 :=
  select (Host.reduce IntOp.andi (inside i) (constantI S_ 1 1#1) reducesTo_S16384x1_S16384_d1 h_S_)
    (Host.gather gather_S16384_S16384x1_S16384_n_0_n_n_0_1_1 a (column i))
    (broadcastInDim S16384 ![] bcast_S_S16384 (constant S_ .f32 0x7FC00000#32))

/-- The greatest score. -/
def greatest (h : FVec Ideal S16384 .f32) : FVec Ideal S_ .f32 :=
  Host.reduce FloatOps.maximumf h (constant S_ .f32 0xFF800000#32) reducesTo_S16384_S_d0 h_S_

/-- The running sums. -/
def running (a : FVec Ideal S16384 .f32) : FVec Ideal S16384 .f32 :=
  Host.reduceWindowAdd ![16384] ![1] ![16383] ![0] a (broadcastInDim S_ ![] bcast_S_S_ (constant S_ .f32 0x00000000#32))
    reduceWindows_S16384_S16384_w16384s1p16383_0 h_S_

/-- The logarithms of the running sums of the exponentials. -/
def logs (h : FVec Ideal S16384 .f32) : FVec Ideal S16384 .f32 :=
  addf (Host.log (addf (running (Host.exp (subf h (broadcastInDim S16384 ![] bcast_S_S16384 (greatest h)))))
      (broadcastInDim S16384 ![] bcast_S_S16384 (constant S_ .f32 0x33D6BF95#32))))
    (broadcastInDim S16384 ![] bcast_S_S16384 (greatest h))

/-- The loss of scores and events in their order. -/
def ofSorted (h e : FVec Ideal S16384 .f32) : FVec Ideal S_ .f32 :=
  Host.negf (Host.divf
    (Host.reduceAdd (mulf (subf h (logs h)) e) (constant S_ .f32 0x00000000#32) reducesTo_S16384_S_d0 h_S_)
    (Host.reduceAdd e (constant S_ .f32 0x00000000#32) reducesTo_S16384_S_d0 h_S_))

/-- The reference's result, in these words. -/
theorem result_eq (m : (ℓ : Loc nD τ sig) → Buf (Elt Ideal) ℓ) (c : Dev nD) :
    Value.res_main_v25 m c
      = ofSorted (take (scores (m ((c.tc : Thread nD τ).loc main_arg0)) (m ((c.tc : Thread nD τ).loc main_arg2))) (ids (times (m ((c.tc : Thread nD τ).loc main_arg1)))))
          (take (events (m ((c.tc : Thread nD τ).loc main_arg1))) (ids (times (m ((c.tc : Thread nD τ).loc main_arg1))))) := rfl

/-- The sort's comparison of two keys: less than. -/
theorem comparator_eq (a b : EReal × BitVec 32) :
    comparator_f32_i32_d0 (F := Ideal) a b = BitVec.ofBool (decide (a.1 < b.1)) := by
  have z : ∀ x : EReal, Scalar.select (FloatOps.cmpf (F := Ideal) (φ := .f32) .oeq x (FloatOps.ofBits .f32 0x00000000#32))
      (FloatOps.ofBits (F := Ideal) .f32 0x00000000#32) x = x := by
    intro x
    show Scalar.select (BitVec.ofBool (decide (x = Ideal.ofBits .f32 0x00000000#32))) (Ideal.ofBits .f32 0x00000000#32) x = x
    by_cases h : x = Ideal.ofBits .f32 0x00000000#32
    · rw [decide_eq_true h, ← h]; rfl
    · rw [decide_eq_false h]; rfl
  have n : ∀ x y c : EReal, Scalar.select (FloatOps.cmpf (F := Ideal) (φ := .f32) .une x x) c y = y := by
    intro x y c
    show Scalar.select (BitVec.ofBool (decide (x ≠ x))) c y = y
    rw [decide_eq_false (by simp)]; rfl
  unfold comparator_f32_i32_d0
  simp only [n, z]
  rfl

/-- The order the sort finds. -/
def order {n : ℕ} (t : Fin n → EReal) : Fin n → Fin n := sortedFrom fun k k' => decide (-t k < -t k')

/-- The second array of a sort of two, along their one axis. -/
theorem sort2_snd {n : ℕ} {α β : Type} (cmp : α × β → α × β → BitVec 1) (x : (⟨1, ![n]⟩ : Shape).Idx → α) (y : (⟨1, ![n]⟩ : Shape).Idx → β)
    (k : Fin n) : (Host.sort2 ⟨1, ![n]⟩ 0 cmp x y).2 (ix1 k)
      = y (ix1 (sortedFrom (fun a b => cmp (x (ix1 a), y (ix1 a)) (x (ix1 b), y (ix1 b)) == 1#1) k)) := by
  have al : ∀ (j : (⟨1, ![n]⟩ : Shape).Idx) (q : Fin n), j.along (0 : Fin 1) q = ix1 q := by
    intro j q
    funext a
    have : a = 0 := Subsingleton.elim _ _
    subst this
    exact Function.update_self ..
  rw [Host.sort2_eq_sortBy]
  refine (congrArg y (al (ix1 k) _)).trans ?_
  refine congrArg (fun r : Fin n → Fin n => y (ix1 (r k))) (congrArg sortedFrom ?_)
  funext a b
  exact congrArg₂ (fun i j => cmp (x i, y i) (x j, y j) == 1#1) (al (ix1 k) a) (al (ix1 k) b)

/-- The sorted numbers are that order's. -/
theorem ids_at (t : FVec Ideal S16384 .f32) (k : Fin 16384) :
    ids t (ix1 k) = BitVec.ofNat 32 (order (fun p => t (ix1 p)) k).val := by
  unfold ids order
  refine (sort2_snd _ _ _ k).trans ?_
  rw [show (fun a b : Fin 16384 => comparator_f32_i32_d0 (F := Ideal) (Host.negf t (ix1 a), iotaInDim S16384 32 0 (ix1 a)) (Host.negf t (ix1 b), iotaInDim S16384 32 0 (ix1 b)) == 1#1)
      = fun a b => decide (-t (ix1 a) < -t (ix1 b)) from funext fun a => funext fun b => by
    rw [comparator_eq]
    show (BitVec.ofBool (decide (-t (ix1 a) < -t (ix1 b))) == 1#1) = _
    cases decide (-t (ix1 a) < -t (ix1 b)) <;> rfl]
  rfl

/-- The order as a permutation. -/
def perm {n : ℕ} (t : Fin n → EReal) : Equiv.Perm (Fin n) :=
  Equiv.ofBijective (order t) ⟨sortedFrom_injective _, sortedFrom_surjective _⟩

/-- No later entry of the order comes before an earlier one. -/
theorem no_inversion {n : ℕ} (u : Fin n → EReal) (i j : Fin n) (h : i < j) :
    ¬ u (sortedFrom (fun k k' => decide (u k < u k')) j) < u (sortedFrom (fun k k' => decide (u k < u k')) i) :=
  of_decide_eq_false (sortedFrom_noInversion (fun k k' => decide (u k < u k')) (fun k k' => decide (u k < u k'))
    (fun _ _ h => decide_eq_false (not_lt.mpr (le_of_lt (of_decide_eq_true h)))) (fun _ _ h => h)
    (fun _ _ _ h1 h2 => decide_eq_false (not_lt.mpr ((not_lt.mp (of_decide_eq_false h2)).trans (not_lt.mp (of_decide_eq_false h1))))) i j h)

/-- In that order the times descend. -/
theorem perm_antitone {n : ℕ} (t : Fin n → EReal) : Antitone (t ∘ perm t) := by
  intro i j hij
  rcases hij.lt_or_eq with h | h
  · have e := no_inversion (fun p => -t p) i j h
    exact EReal.neg_le_neg_iff.mp (not_lt.mp e)
  · subst h; exact le_refl _

/-- The permutation is the order. -/
theorem perm_apply {n : ℕ} (t : Fin n → EReal) (k : Fin n) : perm t k = order t k := rfl

/-- The sort's numbers are those of a permutation in whose order the times descend. -/
theorem sorted (t : FVec Ideal S16384 .f32) :
    ∃ ρ : Equiv.Perm (Fin 16384), Antitone ((fun p => t (ix1 p)) ∘ ρ) ∧ ∀ k, ids t (ix1 k) = BitVec.ofNat 32 (ρ k).val :=
  ⟨perm fun p => t (ix1 p), perm_antitone _, fun k => by rw [perm_apply]; exact ids_at t k⟩

/-- The column at numbers that lie inside. -/
theorem column_at (i : IVec S16384 32) (r : Fin 16384 → Fin 16384) (hi : ∀ k, i (ix1 k) = BitVec.ofNat 32 (r k).val) (k : Fin 16384) :
    column i (ix2 k (0 : Fin 1)) = BitVec.ofNat 32 (r k).val := by
  unfold column
  pointwise [hi]
  have := (r k).isLt
  simp (disch := omega) only [hlo_ix]
  simp

/-- Taking at numbers that lie inside. -/
theorem take_at (a : FVec Ideal S16384 .f32) (i : IVec S16384 32) (r : Fin 16384 → Fin 16384)
    (hi : ∀ k, i (ix1 k) = BitVec.ofNat 32 (r k).val) (k : Fin 16384) : take a i (ix1 k) = a (ix1 (r k)) := by
  have hc := column_at i r hi
  have hin : ∀ j, inside i j = 1#1 := by
    intro j
    idx_vars j
    obtain rfl : j1 = 0 := Subsingleton.elim _ _
    unfold inside
    pointwise [hc]
    have := (r j0).isLt
    simp (disch := omega) only [hlo_ix]
    simp
    omega
  unfold take
  show Scalar.select (Host.reduce IntOp.andi (inside i) _ _ _ (ix1 k)) _ _ = _
  rw [Host.reduce_andi_one _ _ _ _ _ rfl hin]
  exact Routing.gather_take1 _ rfl rfl rfl rfl a (column i) k (r k) (hc k) (by norm_num)

/-- A fold of sums is the sum. -/
theorem foldl_add {ι : Type} (l : List ι) (g : ι → EReal) (b : EReal) : l.foldl (fun r n => r + g n) b = b + (l.map g).sum := by
  induction l generalizing b with
  | nil => simp
  | cons a l ih => rw [List.foldl_cons, ih, List.map_cons, List.sum_cons, add_assoc]

/-- A sum over the windows that end at the position, padded below, is the sum of the entries up to it. -/
theorem window_sum {n : ℕ} (f : Fin n → EReal) (k : Fin n) :
    (∑ w : Fin n, if h : n - 1 ≤ k.val + w.val ∧ k.val + w.val - (n - 1) < n then f ⟨k.val + w.val - (n - 1), h.2⟩ else 0)
      = ∑ q : Fin n, if q.val ≤ k.val then f q else 0 := by
  have hk := k.isLt
  rw [← Equiv.sum_comp Fin.revPerm, ← Finset.sum_filter]
  rw [show (∑ w : Fin n, if h : n - 1 ≤ k.val + (Fin.revPerm w).val ∧ k.val + (Fin.revPerm w).val - (n - 1) < n
        then f ⟨k.val + (Fin.revPerm w).val - (n - 1), h.2⟩ else 0)
      = ∑ w : Fin n, if w.val ≤ k.val then f ⟨k.val - w.val, by omega⟩ else 0 from
    Finset.sum_congr rfl fun w _ => by
      have hw := w.isLt
      have e : (Fin.revPerm w).val = n - (w.val + 1) := Fin.val_rev w
      by_cases h : w.val ≤ k.val
      · rw [if_pos h, dif_pos (by omega)]
        exact congrArg f (Fin.ext (by simp only [e]; omega))
      · rw [if_neg h, dif_neg (by omega)]]
  rw [← Finset.sum_filter]
  refine Finset.sum_nbij' (fun w => ⟨k.val - w.val, by omega⟩) (fun w => ⟨k.val - w.val, by omega⟩) ?_ ?_ ?_ ?_ ?_
  · intro w _; exact Finset.mem_filter.mpr ⟨Finset.mem_univ _, Nat.sub_le _ _⟩
  · intro w _; exact Finset.mem_filter.mpr ⟨Finset.mem_univ _, Nat.sub_le _ _⟩
  · intro w hw
    have := (Finset.mem_filter.mp hw).2
    exact Fin.ext (by simp only; omega)
  · intro w hw
    have := (Finset.mem_filter.mp hw).2
    exact Fin.ext (by simp only; omega)
  · intro w _; rfl

/-- A choice does not depend on how its condition is decided. -/
theorem dite_any {α : Type} {p : Prop} (d d' : Decidable p) (f : p → α) (g : ¬p → α) : @dite α p d f g = @dite α p d' f g := by
  rw [Subsingleton.elim d d']

/-- The padded window sums of an array along its one axis are the sums of the entries up to each position. -/
theorem windowed {n : ℕ} (m : ℕ) (hm : m = n - 1) (x : (⟨1, ![n]⟩ : Shape).Idx → EReal)
    (h : Shape.ReduceWindows ⟨1, ![n]⟩ ![n] ![1] ![m] ![0] ⟨1, ![n]⟩) (k : Fin n) :
    Ideal.hostReduceWindowAdd ![n] ![1] ![m] ![0] h x 0 (ix1 k) = ∑ q : Fin n, if q.val ≤ k.val then x (ix1 q) else 0 := by
  subst hm
  unfold Ideal.hostReduceWindowAdd Host.reduceWindow
  dsimp only
  rw [foldl_add, ← Fin.sum_univ_def, zero_add, ← window_sum (fun q => x (ix1 q)) k]
  let G : (⟨1, ![n]⟩ : Shape).Idx → EReal := fun i =>
    if hin : ∀ b : Fin 1, ![n - 1] b ≤ (ix1 k (Fin.cast rfl b)).val * ![1] b + (i b).val
        ∧ (ix1 k (Fin.cast rfl b)).val * ![1] b + (i b).val - ![n - 1] b < ![n] b then
      x fun b => ⟨(ix1 k (Fin.cast rfl b)).val * ![1] b + (i b).val - ![n - 1] b, (hin b).2⟩
    else 0
  refine Eq.trans (b := ∑ i, G ((Shape.rowMajor ⟨1, ![n]⟩).symm i)) (Finset.sum_congr rfl fun i _ => ?_) ((Equiv.sum_comp _ G).trans ?_)
  · exact dite_any _ _ _ _
  rw [sum_idx1]
  refine Finset.sum_congr rfl fun w _ => ?_
  have hw := w.isLt
  have hk := k.isLt
  by_cases h : n - 1 ≤ k.val + w.val
  · rw [dif_pos (show n - 1 ≤ k.val + w.val ∧ k.val + w.val - (n - 1) < n by omega)]
    refine (dif_pos (by
      intro b
      obtain rfl : b = 0 := Subsingleton.elim _ _
      show n - 1 ≤ k.val * 1 + w.val ∧ k.val * 1 + w.val - (n - 1) < n
      omega)).trans (congrArg x (funext fun b => ?_))
    obtain rfl : b = 0 := Subsingleton.elim _ _
    exact Fin.ext (show k.val * 1 + w.val - (n - 1) = k.val + w.val - (n - 1) by omega)
  · rw [dif_neg (show ¬(n - 1 ≤ k.val + w.val ∧ k.val + w.val - (n - 1) < n) by omega)]
    refine dif_neg fun hb => h ?_
    have : n - 1 ≤ k.val * 1 + w.val := (hb 0).1
    omega

/-- A running sum is the sum of the entries up to the position. -/
theorem running_at (a : FVec Ideal S16384 .f32) (k : Fin 16384) :
    running a (ix1 k) = ∑ q : Fin 16384, if q.val ≤ k.val then a (ix1 q) else 0 := by
  unfold running Host.reduceWindowAdd
  rw [Ideal.hostReduceWindowAdd_def]
  have z : broadcastInDim S_ ![] bcast_S_S_ (constant (F := Ideal) S_ .f32 0x00000000#32) (Shape.Idx.first h_S_) = (0 : EReal) := Ideal.ofBits_zero_f32
  rw [z]
  exact windowed 16383 rfl a _ k

/-- The reference's loss of entries in an order, in sums over the numbers. -/
def lossOf (H E : Fin 16384 → EReal) : EReal :=
  -Ideal.div (∑ p, (H p - (Ideal.log ((∑ q : Fin 16384, if q.val ≤ p.val then
      Ideal.exp (H q - Finset.univ.fold max (Ideal.ofBits .f32 0xFF800000#32) H) else 0) + Ideal.ofBits .f32 0x33D6BF95#32)
    + Finset.univ.fold max (Ideal.ofBits .f32 0xFF800000#32) H)) * E p) (∑ p, E p)

/-- The greatest score, read. -/
theorem greatest_at (h : FVec Ideal S16384 .f32) (j : S_.Idx) :
    greatest h j = Finset.univ.fold max (Ideal.ofBits .f32 0xFF800000#32) fun p : Fin 16384 => h (ix1 p) := by
  unfold greatest
  pointwise

/-- The loss of arrays in their order, read. -/
theorem ofSorted_at (h e : FVec Ideal S16384 .f32) (j : S_.Idx) :
    ofSorted h e j = lossOf (fun p => h (ix1 p)) fun p => e (ix1 p) := by
  have hl : ∀ p : Fin 16384, logs h (ix1 p) = Ideal.log ((∑ q : Fin 16384, if q.val ≤ p.val then
      Ideal.exp (h (ix1 q) - Finset.univ.fold max (Ideal.ofBits .f32 0xFF800000#32) fun p : Fin 16384 => h (ix1 p)) else 0) + Ideal.ofBits .f32 0x33D6BF95#32)
    + Finset.univ.fold max (Ideal.ofBits .f32 0xFF800000#32) fun p : Fin 16384 => h (ix1 p) := by
    intro p
    unfold logs
    pointwise [running_at, greatest_at]
  unfold ofSorted lossOf
  pointwise [hl]

/-- THE REFERENCE: the loss of the scores and events in an order in which the times descend. -/
theorem value (x : FVec Ideal S16384x512 .f32) (y : FVec Ideal S16384x2 .f32) (w : FVec Ideal S512x1 .f32) (j : S_.Idx) :
    ∃ ρ : Equiv.Perm (Fin 16384), Antitone ((fun p => y (ix2 p (0 : Fin 2))) ∘ ρ)
      ∧ ofSorted (take (scores x w) (ids (times y))) (take (events y) (ids (times y))) j
        = lossOf (fun p => ∑ k : Fin 512, x (ix2 (ρ p) k) * w (ix2 k (0 : Fin 1))) fun p => y (ix2 (ρ p) (1 : Fin 2)) := by
  have ht : ∀ p : Fin 16384, times y (ix1 p) = y (ix2 p (0 : Fin 2)) := by
    intro p
    unfold times
    pointwise
  have he : ∀ p : Fin 16384, events y (ix1 p) = y (ix2 p (1 : Fin 2)) := by
    intro p
    unfold events
    pointwise
  have hs : ∀ p : Fin 16384, scores x w (ix1 p) = ∑ k : Fin 512, x (ix2 p k) * w (ix2 k (0 : Fin 1)) := by
    intro p
    unfold scores
    pointwise
  obtain ⟨ρ, hρ, hi⟩ := sorted (times y)
  rw [show (fun p => times y (ix1 p)) = fun p => y (ix2 p (0 : Fin 2)) from funext ht] at hρ
  refine ⟨ρ, hρ, ?_⟩
  rw [ofSorted_at]
  refine congrArg₂ lossOf (funext fun p => ?_) (funext fun p => ?_)
  · exact (take_at _ _ _ hi p).trans (hs _)
  · exact (take_at _ _ _ hi p).trans (he _)

end Cert.ReferenceIdeal.Term

end
-- ==== Proof.Equation.lean ====
/-
  The equation of the two losses: of distinct times and real events and scores, the kernel's loss, which takes the sum of the
  events times the scores apart, is the reference's.
-/
module

public import proofs.«01_k».proof.Proof.Combine
public import proofs.«01_k».proof.Proof.RefTerm
public import Mathlib.Order.WellFounded

@[expose] public section

noncomputable section

namespace Cert.Equation

open Idealize.ShloMosaic

/-- Two orders in which distinct times descend are the same. -/
theorem perm_unique {n : ℕ} (T : Fin n → EReal) (hT : Function.Injective T) (σ ρ : Equiv.Perm (Fin n))
    (hσ : Antitone (T ∘ σ)) (hρ : Antitone (T ∘ ρ)) : σ = ρ := by
  have mono : ∀ τ : Equiv.Perm (Fin n), Antitone (T ∘ τ) → StrictMono fun p => OrderDual.toDual (T (τ p)) := fun τ h =>
    (h.strictAnti_of_injective (hT.comp τ.injective)).dual_right
  have e : (fun p => OrderDual.toDual (T (σ p))) = fun p => OrderDual.toDual (T (ρ p)) := by
    rw [← StrictMono.range_inj (mono σ hσ) (mono ρ hρ)]
    exact (σ.surjective.range_comp fun p => OrderDual.toDual (T p)).trans (ρ.surjective.range_comp fun p => OrderDual.toDual (T p)).symm
  exact Equiv.ext fun p => hT (OrderDual.toDual.injective (congrFun e p))

/-- The greatest of some real numbers is a real number. -/
theorem top_real {n : ℕ} (p : Fin n) (H : Fin n → ℝ) : ∃ M : ℝ, Finset.univ.fold max ⊥ (fun q => (H q : EReal)) = M := by
  have h1 : Finset.univ.fold max ⊥ (fun q => (H q : EReal)) ≠ ⊤ :=
    ((Finset.fold_max_lt _).mpr ⟨bot_lt_top, fun q _ => EReal.coe_lt_top _⟩).ne
  have h2 : Finset.univ.fold max ⊥ (fun q => (H q : EReal)) ≠ ⊥ :=
    ((Finset.lt_fold_max _).mpr (.inr ⟨p, Finset.mem_univ _, EReal.bot_lt_coe _⟩)).ne'
  exact ⟨_, (EReal.coe_toReal h1 h2).symm⟩

/-- A sum of real numbers, as an extended real. -/
theorem coe_sum {n : ℕ} (f : Fin n → ℝ) : ∑ p, (f p : EReal) = ((∑ p, f p : ℝ) : EReal) :=
  (map_sum (⟨⟨fun x : ℝ => (x : EReal), EReal.coe_zero⟩, EReal.coe_add⟩ : ℝ →+ EReal) f Finset.univ).symm

/-- The logarithm of a running sum of exponentials is a real number. -/
theorem log_real {n : ℕ} (A : Fin n → ℝ) (hA : ∀ q, 0 < A q) (ε : ℝ) (hε : 0 ≤ ε) (p : Fin n) :
    ∃ c : ℝ, Ideal.log ((∑ q : Fin n, if q.val ≤ p.val then (A q : EReal) else 0) + (ε : EReal)) = c := by
  have e : (∑ q : Fin n, if q.val ≤ p.val then (A q : EReal) else 0) = ((∑ q : Fin n, if q.val ≤ p.val then A q else 0 : ℝ) : EReal) := by
    rw [← coe_sum]
    refine Finset.sum_congr rfl fun q _ => ?_
    split
    · rfl
    · exact EReal.coe_zero.symm
  have hs : 0 < ∑ q : Fin n, if q.val ≤ p.val then A q else 0 :=
    Finset.sum_pos' (fun q _ => by split; exacts [(hA q).le, le_refl _]) ⟨p, Finset.mem_univ _, by rw [if_pos (le_refl _)]; exact hA p⟩
  rw [e, ← EReal.coe_add, Ideal.log_coe, if_neg (not_le.mpr (add_pos_of_pos_of_nonneg hs hε))]
  exact ⟨_, rfl⟩

/-- THE EQUATION, at any number of entries. -/
theorem losses {n : ℕ} (T : Fin n → EReal) (hT : Function.Injective T) (E H : Fin n → ℝ) (ε : ℝ) (hε : 0 ≤ ε)
    (σ ρ : Equiv.Perm (Fin n)) (hσ : Antitone (T ∘ σ)) (hρ : Antitone (T ∘ ρ)) :
    0 - Ideal.div ((∑ p, (E p : EReal) * H p)
        - ∑ p, (E (σ p) : EReal) * (Ideal.log ((∑ q : Fin n, if q.val ≤ p.val then
            Ideal.exp ((H (σ q) : EReal) - Finset.univ.fold max ⊥ fun r => (H r : EReal)) else 0) + (ε : EReal))
          + Finset.univ.fold max ⊥ fun r => (H r : EReal))) (∑ p, (E p : EReal))
      = -Ideal.div (∑ p, ((H (ρ p) : EReal) - (Ideal.log ((∑ q : Fin n, if q.val ≤ p.val then
            Ideal.exp ((H (ρ q) : EReal) - Finset.univ.fold max ⊥ fun r => (H (ρ r) : EReal)) else 0) + (ε : EReal))
          + Finset.univ.fold max ⊥ fun r => (H (ρ r) : EReal))) * (E (ρ p) : EReal)) (∑ p, (E (ρ p) : EReal)) := by
  obtain rfl := perm_unique T hT σ ρ hσ hρ
  rw [Cert.KernelIdeal.Stage.fold_max_equiv σ ⊥ fun r => (H r : EReal), Equiv.sum_comp σ fun p => (E p : EReal), zero_sub]
  refine congrArg (fun z => -Ideal.div z _) ?_
  rcases isEmpty_or_nonempty (Fin n) with h | ⟨⟨p0⟩⟩
  · simp
  obtain ⟨M, hM⟩ := top_real p0 H
  rw [hM]
  choose c hc using log_real (fun q => Real.exp (H (σ q) - M)) (fun q => Real.exp_pos _) ε hε
  have e : ∀ p : Fin n, Ideal.log ((∑ q : Fin n, if q.val ≤ p.val then Ideal.exp ((H (σ q) : EReal) - (M : EReal)) else 0) + (ε : EReal)) = c p := hc
  simp only [e]
  rw [← Equiv.sum_comp σ fun p => (E p : EReal) * (H p : EReal)]
  have l : ∀ p, (E (σ p) : EReal) * (H (σ p) : EReal) = ((E (σ p) * H (σ p) : ℝ) : EReal) := fun p => (EReal.coe_mul _ _).symm
  have m : ∀ p, (E (σ p) : EReal) * ((c p : EReal) + (M : EReal)) = ((E (σ p) * (c p + M) : ℝ) : EReal) := fun p => by
    rw [EReal.coe_mul, EReal.coe_add]
  have r : ∀ p, ((H (σ p) : EReal) - ((c p : EReal) + (M : EReal))) * (E (σ p) : EReal) = (((H (σ p) - (c p + M)) * E (σ p) : ℝ) : EReal) := fun p => by
    rw [EReal.coe_mul, EReal.coe_sub, EReal.coe_add]
  simp only [l, m, r]
  rw [coe_sum, coe_sum, coe_sum, ← EReal.coe_sub, ← Finset.sum_sub_distrib]
  exact congrArg _ (Finset.sum_congr rfl fun p _ => by ring)

/-- A sum with an infinite entry is infinite: a quotient by it is zero. -/
theorem div_infinite {n : ℕ} (E : Fin n → EReal) (p : Fin n) (hp : E p = ⊤ ∨ E p = ⊥) (a : EReal) :
    Ideal.div a (∑ q, E q) = 0 := by
  have e : ∑ q, E q = ⊤ ∨ ∑ q, E q = ⊥ := by
    rw [← Finset.add_sum_erase Finset.univ E (Finset.mem_univ p)]
    generalize ∑ q ∈ Finset.univ.erase p, E q = s
    rcases hp with h | h
    · rw [h]
      induction s with
      | bot => exact .inr (EReal.add_bot _)
      | top => exact .inl rfl
      | coe r => exact .inl (EReal.top_add_coe r)
    · exact .inr (by rw [h, EReal.bot_add])
  rcases e with e | e <;> rw [e] <;> simp [Ideal.div]

/-- The equation at events that may be infinite: then both sides are a quotient by an infinite sum. -/
theorem losses_ext {n : ℕ} (T : Fin n → EReal) (hT : Function.Injective T) (E : Fin n → EReal) (H : Fin n → ℝ) (ε : ℝ) (hε : 0 ≤ ε)
    (σ ρ : Equiv.Perm (Fin n)) (hσ : Antitone (T ∘ σ)) (hρ : Antitone (T ∘ ρ)) :
    0 - Ideal.div ((∑ p, E p * H p)
        - ∑ p, E (σ p) * (Ideal.log ((∑ q : Fin n, if q.val ≤ p.val then
            Ideal.exp ((H (σ q) : EReal) - Finset.univ.fold max ⊥ fun r => (H r : EReal)) else 0) + (ε : EReal))
          + Finset.univ.fold max ⊥ fun r => (H r : EReal))) (∑ p, E p)
      = -Ideal.div (∑ p, ((H (ρ p) : EReal) - (Ideal.log ((∑ q : Fin n, if q.val ≤ p.val then
            Ideal.exp ((H (ρ q) : EReal) - Finset.univ.fold max ⊥ fun r => (H (ρ r) : EReal)) else 0) + (ε : EReal))
          + Finset.univ.fold max ⊥ fun r => (H (ρ r) : EReal))) * E (ρ p)) (∑ p, E (ρ p)) := by
  by_cases h : ∃ p, E p = ⊤ ∨ E p = ⊥
  · obtain ⟨p, hp⟩ := h
    rw [div_infinite E p hp, div_infinite (fun q => E (ρ q)) (ρ.symm p) (by simpa using hp)]
    simp
  · push Not at h
    obtain ⟨E', rfl⟩ : ∃ E' : Fin n → ℝ, E = fun p => (E' p : EReal) :=
      ⟨fun p => (E p).toReal, funext fun p => (EReal.coe_toReal (h p).1 (h p).2).symm⟩
    exact losses T hT E' H ε hε σ ρ hσ hρ

/-- The word of −∞. -/
theorem bot_word : Ideal.ofBits .f32 0xFF800000#32 = ⊥ := by simp [Ideal.ofBits, Ideal.ieee]

/-- The word that is added under the logarithm is a real number, not negative. -/
theorem eps_word : ∃ ε : ℝ, 0 ≤ ε ∧ Ideal.ofBits .f32 0x33D6BF95#32 = (ε : EReal) := by
  show ∃ ε : ℝ, 0 ≤ ε ∧ Ideal.ieee 8 23 0x33D6BF95#32 = (ε : EReal)
  unfold Ideal.ieee
  dsimp only
  rw [if_neg (by decide), if_neg (by decide)]
  refine ⟨_, ?_, rfl⟩
  rw [if_neg (by decide)]
  positivity

end Cert.Equation

end
-- ==== Proof.Agree.lean ====
/-
  The kernel's result and the reference's, of the same arguments, are one extended real.
-/
module

public import proofs.«01_k».proof.Proof.Blocks
public import proofs.«01_k».proof.Proof.Decode
public import proofs.«01_k».proof.Proof.Equation

@[expose] public section

set_option maxRecDepth 16384

noncomputable section

namespace Cert.Agree

open Idealize.ShloMosaic Idealize.ShloMosaic.TcCoe Idealize.SL.Sem
open Cert.KernelIdeal (S16384x512 S16384x2 S512x1 S1x1 nD τ sig)
open Cert.KernelIdeal.Rows (rows labels weights loss lastPt times_cell events_cell scores_cell)

/-- A product of a row of reals with real weights is a real number. -/
theorem score_real (x : FVec Ideal S16384x512 .f32) (w : FVec Ideal S512x1 .f32) (hx : ∀ i, ∃ r : ℝ, x i = r)
    (hw : ∀ i, ∃ r : ℝ, w i = r) (p : Fin 16384) :
    ∃ r : ℝ, ∑ k : Fin 512, x (ix2 p k) * w (ix2 k (0 : Fin 1)) = (r : EReal) := by
  choose X hX using hx
  choose W hW using hw
  refine ⟨∑ k : Fin 512, X (ix2 p k) * W (ix2 k (0 : Fin 1)), ?_⟩
  rw [← Equation.coe_sum]
  exact Finset.sum_congr rfl fun k _ => by rw [hX, hW, EReal.coe_mul]

variable (m : (ℓ : Loc nD τ sig) → Buf (Elt Ideal) ℓ) (c : Dev nD)

/-- Where the times differ pairwise and the rows and weights are real, the kernel's result is the reference's. -/
theorem loss_eq (hT : Function.Injective fun p : Fin 16384 => labels m c (ix2 p (0 : Fin 2)))
    (hx : ∀ i, ∃ r : ℝ, rows m c i = r) (hw : ∀ i, ∃ r : ℝ, weights m c i = r)
    (j : S1x1.Idx) (j' : Cert.ReferenceIdeal.S_.Idx) :
    (loss m c lastPt : FVec Ideal S1x1 .f32) j
      = Cert.ReferenceIdeal.Term.ofSorted
          (Cert.ReferenceIdeal.Term.take (Cert.ReferenceIdeal.Term.scores (rows m c) (weights m c))
            (Cert.ReferenceIdeal.Term.ids (Cert.ReferenceIdeal.Term.times (labels m c))))
          (Cert.ReferenceIdeal.Term.take (Cert.ReferenceIdeal.Term.events (labels m c))
            (Cert.ReferenceIdeal.Term.ids (Cert.ReferenceIdeal.Term.times (labels m c)))) j' := by
  obtain ⟨ρ, hρ, er⟩ := Cert.ReferenceIdeal.Term.value (rows m c) (labels m c) (weights m c) j'
  obtain ⟨σ, hσ, ek⟩ := Cert.KernelIdeal.Stage.lastPoint_value _ _ _ _ _ _ hT (times_cell m c lastPt) (events_cell m c lastPt)
    (scores_cell m c) j
  choose H hH using score_real (rows m c) (weights m c) hx hw
  obtain ⟨ε, hε, eε⟩ := Equation.eps_word
  refine ek.trans (Eq.trans ?_ er.symm)
  simp only [hH]
  unfold Cert.KernelIdeal.Stage.lossOf Cert.ReferenceIdeal.Term.lossOf Cert.KernelIdeal.Stage.top
  rw [Equation.bot_word, eε]
  exact Equation.losses_ext _ hT _ H ε hε σ ρ hσ hρ

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.BitsFrame
public import proofs.«01_k».proof.Proof.KRun
public import proofs.«01_k».proof.Proof.Agree
public import Idealize.ShloMosaic.Lib.Bf16Pair
public import Idealize.ShloMosaic.Adequacy
public import Idealize.ShloMosaic.Init

@[expose] public section

noncomputable section

namespace Cert.Proof

open Idealize.ShloMosaic Idealize.SL.Sem

/-- The reference's frame: its arguments end as they started, and it has no counter. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems (by decide) r.2⟩) (Cert.ReferenceIdeal.Value.run m g)

/-- At the end the two results are one, of arguments that agree and meet the precondition. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (hpre : Pre_KernelIdeal_distinct_times_finite_factors m)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v25 m' c
      = shapeCast Cert.KernelIdeal.S_ (Cert.KernelIdeal.Rows.loss m c Cert.KernelIdeal.Rows.lastPt) Cert.KernelIdeal.Gen.shapeCasts_S1x1_S_ := by
  rw [Cert.ReferenceIdeal.Term.result_eq, h0, h1, h2]
  funext j
  obtain ⟨d, x, w⟩ := hpre c
  exact (Cert.Agree.loss_eq m c (Cert.Pre_distinct_times_finite_factors.times_differ _ _ _ d)
    (Cert.Pre_distinct_times_finite_factors.rows_real _ _ _ x)
    (Cert.Pre_distinct_times_finite_factors.weights_real _ _ _ w) _ j).symm

/-- All the claims together. -/
theorem claim : Cert.Claim :=
  ⟨Cert.Kernel.Gen.facts, Cert.KernelIdeal.Gen.facts, Cert.ReferenceIdeal.Gen.facts, Cert.Pre_distinct_times_finite_factors.facts,
    fun m g _ => Cert.Kernel.Kept.frame m g,
    fun m g _ => Cert.KernelIdeal.Rows.frame m g,
    fun m g _ => Cert.KernelIdeal.Rows.frame m g,
    fun m g _ => reference_frame m g,
    fun m g _ => reference_frame m g,
    IdealRules.bf16_pair.halfStatement _,
    fun m g m' g' hpre hagree => ⟨_, Cert.KernelIdeal.Rows.run m g,
      (θ_run _ _ _).mono (fun r h c => ⟨(h c).1.trans (results_eq m m' c hpre (hagree c).1 (hagree c).2.1 (hagree c).2.2), (h c).2⟩) (Cert.ReferenceIdeal.Value.run m' g')⟩⟩

end Cert.Proof

end
